-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane [hPre_sane : Cert.Pre_sane.Facts] (m : (ℓ : Loc Cert.KernelIdeal.nD Cert.KernelIdeal.τ Cert.KernelIdeal.sig) → Buf (Elt Ideal) ℓ) : Prop :=
  ∀ c : Dev Cert.KernelIdeal.nD,
    (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane [hPre_sane : Cert.Pre_sane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sane [hKernelIdeal : Cert.KernelIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sane [hReferenceIdeal : Cert.ReferenceIdeal.Facts] [hPre_sane : Cert.Pre_sane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mean_ratio" .f32 0x3F814AFD#32 ((100 / 99 : ℝ) : EReal)

def algebraic_KernelIdeal_ReferenceIdeal_pre_sane [hKernelIdeal : Cert.KernelIdeal.Facts] [hReferenceIdeal : Cert.ReferenceIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sane : Cert.Pre_sane.Facts),
    quiescent_Kernel (hKernel := hKernel)
    ∧ quiescent_KernelIdeal (hKernelIdeal := hKernelIdeal)
    ∧ quiescent_KernelIdeal_pre_sane (hKernelIdeal := hKernelIdeal) (hPre_sane := hPre_sane)
    ∧ quiescent_ReferenceIdeal (hReferenceIdeal := hReferenceIdeal)
    ∧ quiescent_ReferenceIdeal_pre_sane (hReferenceIdeal := hReferenceIdeal) (hPre_sane := hPre_sane)
    ∧ preserves_Kernel_KernelIdeal
    ∧ algebraic_KernelIdeal_ReferenceIdeal_pre_sane (hKernelIdeal := hKernelIdeal) (hReferenceIdeal := hReferenceIdeal) (hPre_sane := hPre_sane)
-- ==== Pre_sane.lean ====
abbrev S16384x64 : Shape := ⟨2, ![16384, 64]⟩
abbrev S16384x26 : Shape := ⟨2, ![16384, 26]⟩
abbrev S100x26x64 : Shape := ⟨3, ![100, 26, 64]⟩
abbrev S100x26 : Shape := ⟨2, ![100, 26]⟩
abbrev S101 : Shape := ⟨1, ![101]⟩
abbrev S_ : Shape := ⟨0, ![]⟩
abbrev S100 : Shape := ⟨1, ![100]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S100x26x64 : S_.BroadcastsInDim S100x26x64 (![] : Fin 0 → Fin S100x26x64.rank)
  reducesTo_S100x26x64_S_d0_1_2 : S100x26x64.ReducesTo [0, 1, 2] S_
  bcast_S_S100x26 : S_.BroadcastsInDim S100x26 (![] : Fin 0 → Fin S100x26.rank)
  reducesTo_S100x26_S_d0_1 : S100x26.ReducesTo [0, 1] S_
  bcast_S_S101 : S_.BroadcastsInDim S101 (![] : Fin 0 → Fin S101.rank)
  reducesTo_S101_S_d0 : S101.ReducesTo [0] S_
  bcast_S_S16384x26 : S_.BroadcastsInDim S16384x26 (![] : Fin 0 → Fin S16384x26.rank)
  reducesTo_S16384x26_S_d0_1 : S16384x26.ReducesTo [0, 1] S_
  slices_S101_S100_0 : S101.Slices ![0] S100
  slices_S101_S100_1 : S101.Slices ![1] S100
  reducesTo_S100_S_d0 : S100.ReducesTo [0] S_

variable [Facts]

def fn_part2 {F : FTy → Type} [FloatOps F] (main_arg4 : FVec F S101 .f32) (main_v29 : IVec S_ 1) (main_v32 : IVec S_ 1) : IVec S_ 1 :=
  let main_v33 : IVec S_ 1 := andi main_v32 main_v29
  let main_v34 : FVec F S100 .f32 := (extractStridedSlice S100 ![0] · slices_S101_S100_0) main_arg4
  let main_v35 : FVec F S100 .f32 := (extractStridedSlice S100 ![1] · slices_S101_S100_1) main_arg4
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  main_v38

def fn_part1 {F : FTy → Type} [FloatOps F] (main_arg1 : FVec F S16384x26 .f32) (main_arg4 : FVec F S101 .f32) (main_v5 : IVec S_ 1) (main_v11 : IVec S_ 1) (main_v13 : IVec S100x26 1) (main_v15 : IVec S100x26 1) : IVec S_ 1 :=
  let main_v16 : IVec S100x26 1 := andi main_v13 main_v15
  let main_c_6 : IVec S_ 1 := constantI S_ 1 1#1
  let main_v17 : IVec S_ 1 := (fun x v => Host.reduce IntOp.andi x v reducesTo_S100x26_S_d0_1 h_S_) main_v16 main_c_6
  let main_cst_7 : FVec F S_ .f32 := constant S_ .f32 0xFF800000#32
  let main_v18 : FVec F S101 .f32 := broadcastInDim S101 ![] bcast_S_S101 main_cst_7
  let main_v19 : IVec S101 1 := cmpf .ogt main_arg4 main_v18
  let main_cst_8 : FVec F S_ .f32 := constant S_ .f32 0x7F800000#32
  let main_v20 : FVec F S101 .f32 := broadcastInDim S101 ![] bcast_S_S101 main_cst_8
  let main_v21 : IVec S101 1 := cmpf .olt main_arg4 main_v20
  let main_v22 : IVec S101 1 := andi main_v19 main_v21
  let main_c_9 : IVec S_ 1 := constantI S_ 1 1#1
  let main_v23 : IVec S_ 1 := (fun x v => Host.reduce IntOp.andi x v reducesTo_S101_S_d0 h_S_) main_v22 main_c_9
  let main_cst_10 : FVec F S_ .f32 := constant S_ .f32 0xFF7FC99E#32
  let main_v24 : FVec F S16384x26 .f32 := broadcastInDim S16384x26 ![] bcast_S_S16384x26 main_cst_10
  let main_v25 : IVec S16384x26 1 := cmpf .ogt main_arg1 main_v24
  let main_cst_11 : FVec F S_ .f32 := constant S_ .f32 0x7F7FC99E#32
  let main_v26 : FVec F S16384x26 .f32 := broadcastInDim S16384x26 ![] bcast_S_S16384x26 main_cst_11
  let main_v27 : IVec S16384x26 1 := cmpf .ole main_arg1 main_v26
  let main_v28 : IVec S16384x26 1 := andi main_v25 main_v27
  let main_c_12 : IVec S_ 1 := constantI S_ 1 1#1
  let main_v29 : IVec S_ 1 := (fun x v => Host.reduce IntOp.andi x v reducesTo_S16384x26_S_d0_1 h_S_) main_v28 main_c_12
  let main_v30 : IVec S_ 1 := andi main_v5 main_v11
  let main_v31 : IVec S_ 1 := andi main_v30 main_v17
  let main_v32 : IVec S_ 1 := andi main_v31 main_v23
  fn_part2 (F := F) main_arg4 main_v29 main_v32

def fn {F : FTy → Type} [FloatOps F] (main_arg0 : FVec F S16384x64 .f32) (main_arg1 : FVec F S16384x26 .f32) (main_arg2 : FVec F S100x26x64 .f32) (main_arg3 : FVec F S100x26 .f32) (main_arg4 : FVec F S101 .f32) : IVec S_ 1 :=
  let main_cst : FVec F S_ .f32 := constant S_ .f32 0xFF800000#32
  let main_v0 : FVec F S16384x64 .f32 := broadcastInDim S16384x64 ![] bcast_S_S16384x64 main_cst
  let main_v1 : IVec S16384x64 1 := cmpf .ogt main_arg0 main_v0
  let main_cst_0 : FVec F S_ .f32 := constant S_ .f32 0x7F800000#32
  let main_v2 : FVec F S16384x64 .f32 := broadcastInDim S16384x64 ![] bcast_S_S16384x64 main_cst_0
  let main_v3 : IVec S16384x64 1 := cmpf .olt main_arg0 main_v2
  let main_v4 : IVec S16384x64 1 := andi main_v1 main_v3
  let main_c : IVec S_ 1 := constantI S_ 1 1#1
  let main_v5 : IVec S_ 1 := (fun x v => Host.reduce IntOp.andi x v reducesTo_S16384x64_S_d0_1 h_S_) main_v4 main_c
  let main_cst_1 : FVec F S_ .f32 := constant S_ .f32 0xFF800000#32
  let main_v6 : FVec F S100x26x64 .f32 := broadcastInDim S100x26x64 ![] bcast_S_S100x26x64 main_cst_1
  let main_v7 : IVec S100x26x64 1 := cmpf .ogt main_arg2 main_v6
  let main_cst_2 : FVec F S_ .f32 := constant S_ .f32 0x7F800000#32
  let main_v8 : FVec F S100x26x64 .f32 := broadcastInDim S100x26x64 ![] bcast_S_S100x26x64 main_cst_2
  let main_v9 : IVec S100x26x64 1 := cmpf .olt main_arg2 main_v8
  let main_v10 : IVec S100x26x64 1 := andi main_v7 main_v9
  let main_c_3 : IVec S_ 1 := constantI S_ 1 1#1
  let main_v11 : IVec S_ 1 := (fun x v => Host.reduce IntOp.andi x v reducesTo_S100x26x64_S_d0_1_2 h_S_) main_v10 main_c_3
  let main_cst_4 : FVec F S_ .f32 := constant S_ .f32 0xFF800000#32
  let main_v12 : FVec F S100x26 .f32 := broadcastInDim S100x26 ![] bcast_S_S100x26 main_cst_4
  let main_v13 : IVec S100x26 1 := cmpf .ogt main_arg3 main_v12
  let main_cst_5 : FVec F S_ .f32 := constant S_ .f32 0x7F800000#32
  let main_v14 : FVec F S100x26 .f32 := broadcastInDim S100x26 ![] bcast_S_S100x26 main_cst_5
  let main_v15 : IVec S100x26 1 := cmpf .olt main_arg3 main_v14
  fn_part1 (F := F) main_arg1 main_arg4 main_v5 main_v11 main_v13 main_v15
-- ==== Kernel.lean ====
abbrev S16384x64 : Shape := ⟨2, ![16384, 64]⟩
abbrev S16384x26 : Shape := ⟨2, ![16384, 26]⟩
abbrev S100x26x64 : Shape := ⟨3, ![100, 26, 64]⟩
abbrev S100x26 : Shape := ⟨2, ![100, 26]⟩
abbrev S101 : Shape := ⟨1, ![101]⟩
abbrev S26x64x100 : Shape := ⟨3, ![26, 64, 100]⟩
abbrev S26x100 : Shape := ⟨2, ![26, 100]⟩
abbrev S1x101 : Shape := ⟨2, ![1, 101]⟩
abbrev S16384x26x100 : Shape := ⟨3, ![16384, 26, 100]⟩
abbrev S16x1x128 : Shape := ⟨3, ![16, 1, 128]⟩
abbrev S1024x64 : Shape := ⟨2, ![1024, 64]⟩
abbrev S1024x26 : Shape := ⟨2, ![1024, 26]⟩
abbrev S1x1x128 : Shape := ⟨3, ![1, 1, 128]⟩
abbrev S26x1024x100 : Shape := ⟨3, ![26, 1024, 100]⟩
abbrev S3x1024x128 : Shape := ⟨3, ![3, 1024, 128]⟩
abbrev S_ : Shape := ⟨0, ![]⟩
abbrev S1x100 : Shape := ⟨2, ![1, 100]⟩
abbrev S100x128 : Shape := ⟨2, ![100, 128]⟩
abbrev S99x128 : Shape := ⟨2, ![99, 128]⟩
abbrev S1024x1x100 : Shape := ⟨3, ![1024, 1, 100]⟩
abbrev S1024x100 : Shape := ⟨2, ![1024, 100]⟩
abbrev S1x1024x100 : Shape := ⟨3, ![1, 1024, 100]⟩
abbrev S1024x1 : Shape := ⟨2, ![1024, 1]⟩
abbrev S1x64x100 : Shape := ⟨3, ![1, 64, 100]⟩
abbrev S64x100 : Shape := ⟨2, ![64, 100]⟩
abbrev S1024x99 : Shape := ⟨2, ![1024, 99]⟩
abbrev S1024x128 : Shape := ⟨2, ![1024, 128]⟩
abbrev S1024 : Shape := ⟨1, ![1024]⟩
abbrev S1x1024x1 : Shape := ⟨3, ![1, 1024, 1]⟩
abbrev S1x1024x26 : Shape := ⟨3, ![1, 1024, 26]⟩
abbrev S1 : Shape := ⟨1, ![1]⟩
abbrev S1x1 : Shape := ⟨2, ![1, 1]⟩
abbrev S1x128 : Shape := ⟨2, ![1, 128]⟩
abbrev S16x1x1 : Shape := ⟨3, ![16, 1, 1]⟩
abbrev S16 : Shape := ⟨1, ![16]⟩

abbrev nBuf : Space → Nat
  | .hbm => 14
  | .vmem => 11
  | .smem => 0
  | _ => 0

abbrev bufTy : (tb : Table) → Fin (tcTables nBuf tb) → BufTy
  | .hbm, ⟨0, _⟩ => ⟨S16384x64, .f32⟩
  | .hbm, ⟨1, _⟩ => ⟨S16384x26, .f32⟩
  | .hbm, ⟨2, _⟩ => ⟨S100x26x64, .f32⟩
  | .hbm, ⟨3, _⟩ => ⟨S100x26, .f32⟩
  | .hbm, ⟨4, _⟩ => ⟨S101, .f32⟩
  | .hbm, ⟨5, _⟩ => ⟨S26x64x100, .f32⟩
  | .hbm, ⟨6, _⟩ => ⟨S26x100, .f32⟩
  | .hbm, ⟨7, _⟩ => ⟨S1x101, .f32⟩
  | .hbm, ⟨8, _⟩ => ⟨S16384x26x100, .f32⟩
  | .hbm, ⟨9, _⟩ => ⟨S16x1x128, .f32⟩
  | .hbm, ⟨10, _⟩ => ⟨S16x1x1, .f32⟩
  | .hbm, ⟨11, _⟩ => ⟨S16, .f32⟩
  | .hbm, ⟨12, _⟩ => ⟨S_, .f32⟩
  | .hbm, ⟨13, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S1024x26, .f32⟩
  | .local _ .vmem, ⟨3, _⟩ => ⟨S1024x26, .f32⟩
  | .local _ .vmem, ⟨4, _⟩ => ⟨S26x64x100, .f32⟩
  | .local _ .vmem, ⟨5, _⟩ => ⟨S26x100, .f32⟩
  | .local _ .vmem, ⟨6, _⟩ => ⟨S1x101, .f32⟩
  | .local _ .vmem, ⟨7, _⟩ => ⟨S1x1x128, .f32⟩
  | .local _ .vmem, ⟨8, _⟩ => ⟨S1x1x128, .f32⟩
  | .local _ .vmem, ⟨9, _⟩ => ⟨S26x1024x100, .f32⟩
  | .local _ .vmem, ⟨10, _⟩ => ⟨S3x1024x128, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_8 : BitVec 32 := 0#32
  let v24 : BitVec 1 := Scalar.cmpi .sgt arg0 c0_i32_8
  let v25 : BitVec 32 := Scalar.extui v24
  let c0_i32_9 : BitVec 32 := 0#32
  let v26 : BitVec 1 := Scalar.cmpi .ne v25 c0_i32_9
  v26

def k0_off1 (i : grid0.Coords) : Fin 3 → Nat :=
  let arg0 : BitVec 32 := BitVec.ofNat 32 (i 0).val
  let c1_i32_763 : BitVec 32 := 1#32
  let v1598 : BitVec 32 := Scalar.subi arg0 c1_i32_763
  let c1024_i32_764 : BitVec 32 := 1024#32
  let v1599 : BitVec 32 := Scalar.muli v1598 c1024_i32_764
  let c0_i32_766 : BitVec 32 := 0#32
  let c0_i32_767 : BitVec 32 := 0#32
  ![v1599.toNat, 0, 0]
def k0_off2 (i : grid0.Coords) : Fin 3 → Nat :=
  let arg0 : BitVec 32 := BitVec.ofNat 32 (i 0).val
  let c1_i32_770 : BitVec 32 := 1#32
  let v1604 : BitVec 32 := Scalar.subi arg0 c1_i32_770
  let c1024_i32_771 : BitVec 32 := 1024#32
  let v1605 : BitVec 32 := Scalar.muli v1604 c1024_i32_771
  let c1_i32_773 : BitVec 32 := 1#32
  let c0_i32_774 : BitVec 32 := 0#32
  ![v1605.toNat, 1, 0]
def k0_off3 (i : grid0.Coords) : Fin 3 → Nat :=
  let arg0 : BitVec 32 := BitVec.ofNat 32 (i 0).val
  let c1_i32_777 : BitVec 32 := 1#32
  let v1610 : BitVec 32 := Scalar.subi arg0 c1_i32_777
  let c1024_i32_778 : BitVec 32 := 1024#32
  let v1611 : BitVec 32 := Scalar.muli v1610 c1024_i32_778
  let c2_i32_780 : BitVec 32 := 2#32
  let c0_i32_781 : BitVec 32 := 0#32
  ![v1611.toNat, 2, 0]
def k0_off4 (i : grid0.Coords) : Fin 3 → Nat :=
  let arg0 : BitVec 32 := BitVec.ofNat 32 (i 0).val
  let c1_i32_784 : BitVec 32 := 1#32
  let v1616 : BitVec 32 := Scalar.subi arg0 c1_i32_784
  let c1024_i32_785 : BitVec 32 := 1024#32
  let v1617 : BitVec 32 := Scalar.muli v1616 c1024_i32_785
  let c3_i32_787 : BitVec 32 := 3#32
  let c0_i32_788 : BitVec 32 := 0#32
  ![v1617.toNat, 3, 0]
def k0_off5 (i : grid0.Coords) : Fin 3 → Nat :=
  let arg0 : BitVec 32 := BitVec.ofNat 32 (i 0).val
  let c1_i32_791 : BitVec 32 := 1#32
  let v1622 : BitVec 32 := Scalar.subi arg0 c1_i32_791
  let c1024_i32_792 : BitVec 32 := 1024#32
  let v1623 : BitVec 32 := Scalar.muli v1622 c1024_i32_792
  let c4_i32_794 : BitVec 32 := 4#32
  let c0_i32_795 : BitVec 32 := 0#32
  ![v1623.toNat, 4, 0]
def k0_off6 (i : grid0.Coords) : Fin 3 → Nat :=
  let arg0 : BitVec 32 := BitVec.ofNat 32 (i 0).val
  let c1_i32_798 : BitVec 32 := 1#32
  let v1628 : BitVec 32 := Scalar.subi arg0 c1_i32_798
  let c1024_i32_799 : BitVec 32 := 1024#32
  let v1629 : BitVec 32 := Scalar.muli v1628 c1024_i32_799
  let c5_i32_801 : BitVec 32 := 5#32
  let c0_i32_802 : BitVec 32 := 0#32
  ![v1629.toNat, 5, 0]
def k0_off7 (i : grid0.Coords) : Fin 3 → Nat :=
  let arg0 : BitVec 32 := BitVec.ofNat 32 (i 0).val
  let c1_i32_805 : BitVec 32 := 1#32
  let v1634 : BitVec 32 := Scalar.subi arg0 c1_i32_805
  let c1024_i32_806 : BitVec 32 := 1024#32
  let v1635 : BitVec 32 := Scalar.muli v1634 c1024_i32_806
  let c6_i32_808 : BitVec 32 := 6#32
  let c0_i32_809 : BitVec 32 := 0#32
  ![v1635.toNat, 6, 0]
def k0_off8 (i : grid0.Coords) : Fin 3 → Nat :=
  let arg0 : BitVec 32 := BitVec.ofNat 32 (i 0).val
  let c1_i32_812 : BitVec 32 := 1#32
  let v1640 : BitVec 32 := Scalar.subi arg0 c1_i32_812
  let c1024_i32_813 : BitVec 32 := 1024#32
  let v1641 : BitVec 32 := Scalar.muli v1640 c1024_i32_813
  let c7_i32_815 : BitVec 32 := 7#32
  let c0_i32_816 : BitVec 32 := 0#32
  ![v1641.toNat, 7, 0]
def k0_off9 (i : grid0.Coords) : Fin 3 → Nat :=
  let arg0 : BitVec 32 := BitVec.ofNat 32 (i 0).val
  let c1_i32_819 : BitVec 32 := 1#32
  let v1646 : BitVec 32 := Scalar.subi arg0 c1_i32_819
  let c1024_i32_820 : BitVec 32 := 1024#32
  let v1647 : BitVec 32 := Scalar.muli v1646 c1024_i32_820
  let c8_i32_822 : BitVec 32 := 8#32
  let c0_i32_823 : BitVec 32 := 0#32
  ![v1647.toNat, 8, 0]
def k0_off10 (i : grid0.Coords) : Fin 3 → Nat :=
  let arg0 : BitVec 32 := BitVec.ofNat 32 (i 0).val
  let c1_i32_826 : BitVec 32 := 1#32
  let v1652 : BitVec 32 := Scalar.subi arg0 c1_i32_826
  let c1024_i32_827 : BitVec 32 := 1024#32
  let v1653 : BitVec 32 := Scalar.muli v1652 c1024_i32_827
  let c9_i32_829 : BitVec 32 := 9#32
  let c0_i32_830 : BitVec 32 := 0#32
  ![v1653.toNat, 9, 0]
def k0_off11 (i : grid0.Coords) : Fin 3 → Nat :=
  let arg0 : BitVec 32 := BitVec.ofNat 32 (i 0).val
  let c1_i32_833 : BitVec 32 := 1#32
  let v1658 : BitVec 32 := Scalar.subi arg0 c1_i32_833
  let c1024_i32_834 : BitVec 32 := 1024#32
  let v1659 : BitVec 32 := Scalar.muli v1658 c1024_i32_834
  let c10_i32_836 : BitVec 32 := 10#32
  let c0_i32_837 : BitVec 32 := 0#32
  ![v1659.toNat, 10, 0]
def k0_off12 (i : grid0.Coords) : Fin 3 → Nat :=
  let arg0 : BitVec 32 := BitVec.ofNat 32 (i 0).val
  let c1_i32_840 : BitVec 32 := 1#32
  let v1664 : BitVec 32 := Scalar.subi arg0 c1_i32_840
  let c1024_i32_841 : BitVec 32 := 1024#32
  let v1665 : BitVec 32 := Scalar.muli v1664 c1024_i32_841
  let c11_i32_843 : BitVec 32 := 11#32
  let c0_i32_844 : BitVec 32 := 0#32
  ![v1665.toNat, 11, 0]
def k0_off13 (i : grid0.Coords) : Fin 3 → Nat :=
  let arg0 : BitVec 32 := BitVec.ofNat 32 (i 0).val
  let c1_i32_847 : BitVec 32 := 1#32
  let v1670 : BitVec 32 := Scalar.subi arg0 c1_i32_847
  let c1024_i32_848 : BitVec 32 := 1024#32
  let v1671 : BitVec 32 := Scalar.muli v1670 c1024_i32_848
  let c12_i32_850 : BitVec 32 := 12#32
  let c0_i32_851 : BitVec 32 := 0#32
  ![v1671.toNat, 12, 0]
def k0_off14 (i : grid0.Coords) : Fin 3 → Nat :=
  let arg0 : BitVec 32 := BitVec.ofNat 32 (i 0).val
  let c1_i32_854 : BitVec 32 := 1#32
  let v1676 : BitVec 32 := Scalar.subi arg0 c1_i32_854
  let c1024_i32_855 : BitVec 32 := 1024#32
  let v1677 : BitVec 32 := Scalar.muli v1676 c1024_i32_855
  let c13_i32_857 : BitVec 32 := 13#32
  let c0_i32_858 : BitVec 32 := 0#32
  ![v1677.toNat, 13, 0]
def k0_off15 (i : grid0.Coords) : Fin 3 → Nat :=
  let arg0 : BitVec 32 := BitVec.ofNat 32 (i 0).val
  let c1_i32_861 : BitVec 32 := 1#32
  let v1682 : BitVec 32 := Scalar.subi arg0 c1_i32_861
  let c1024_i32_862 : BitVec 32 := 1024#32
  let v1683 : BitVec 32 := Scalar.muli v1682 c1024_i32_862
  let c14_i32_864 : BitVec 32 := 14#32
  let c0_i32_865 : BitVec 32 := 0#32
  ![v1683.toNat, 14, 0]
def k0_off16 (i : grid0.Coords) : Fin 3 → Nat :=
  let arg0 : BitVec 32 := BitVec.ofNat 32 (i 0).val
  let c1_i32_868 : BitVec 32 := 1#32
  let v1688 : BitVec 32 := Scalar.subi arg0 c1_i32_868
  let c1024_i32_869 : BitVec 32 := 1024#32
  let v1689 : BitVec 32 := Scalar.muli v1688 c1024_i32_869
  let c15_i32_871 : BitVec 32 := 15#32
  let c0_i32_872 : BitVec 32 := 0#32
  ![v1689.toNat, 15, 0]
def k0_off17 (i : grid0.Coords) : Fin 3 → Nat :=
  let arg0 : BitVec 32 := BitVec.ofNat 32 (i 0).val
  let c1_i32_875 : BitVec 32 := 1#32
  let v1694 : BitVec 32 := Scalar.subi arg0 c1_i32_875
  let c1024_i32_876 : BitVec 32 := 1024#32
  let v1695 : BitVec 32 := Scalar.muli v1694 c1024_i32_876
  let c16_i32_878 : BitVec 32 := 16#32
  let c0_i32_879 : BitVec 32 := 0#32
  ![v1695.toNat, 16, 0]
def k0_off18 (i : grid0.Coords) : Fin 3 → Nat :=
  let arg0 : BitVec 32 := BitVec.ofNat 32 (i 0).val
  let c1_i32_882 : BitVec 32 := 1#32
  let v1700 : BitVec 32 := Scalar.subi arg0 c1_i32_882
  let c1024_i32_883 : BitVec 32 := 1024#32
  let v1701 : BitVec 32 := Scalar.muli v1700 c1024_i32_883
  let c17_i32_885 : BitVec 32 := 17#32
  let c0_i32_886 : BitVec 32 := 0#32
  ![v1701.toNat, 17, 0]
def k0_off19 (i : grid0.Coords) : Fin 3 → Nat :=
  let arg0 : BitVec 32 := BitVec.ofNat 32 (i 0).val
  let c1_i32_889 : BitVec 32 := 1#32
  let v1706 : BitVec 32 := Scalar.subi arg0 c1_i32_889
  let c1024_i32_890 : BitVec 32 := 1024#32
  let v1707 : BitVec 32 := Scalar.muli v1706 c1024_i32_890
  let c18_i32_892 : BitVec 32 := 18#32
  let c0_i32_893 : BitVec 32 := 0#32
  ![v1707.toNat, 18, 0]
def k0_off20 (i : grid0.Coords) : Fin 3 → Nat :=
  let arg0 : BitVec 32 := BitVec.ofNat 32 (i 0).val
  let c1_i32_896 : BitVec 32 := 1#32
  let v1712 : BitVec 32 := Scalar.subi arg0 c1_i32_896
  let c1024_i32_897 : BitVec 32 := 1024#32
  let v1713 : BitVec 32 := Scalar.muli v1712 c1024_i32_897
  let c19_i32_899 : BitVec 32 := 19#32
  let c0_i32_900 : BitVec 32 := 0#32
  ![v1713.toNat, 19, 0]
def k0_off21 (i : grid0.Coords) : Fin 3 → Nat :=
  let arg0 : BitVec 32 := BitVec.ofNat 32 (i 0).val
  let c1_i32_903 : BitVec 32 := 1#32
  let v1718 : BitVec 32 := Scalar.subi arg0 c1_i32_903
  let c1024_i32_904 : BitVec 32 := 1024#32
  let v1719 : BitVec 32 := Scalar.muli v1718 c1024_i32_904
  let c20_i32_906 : BitVec 32 := 20#32
  let c0_i32_907 : BitVec 32 := 0#32
  ![v1719.toNat, 20, 0]
def k0_off22 (i : grid0.Coords) : Fin 3 → Nat :=
  let arg0 : BitVec 32 := BitVec.ofNat 32 (i 0).val
  let c1_i32_910 : BitVec 32 := 1#32
  let v1724 : BitVec 32 := Scalar.subi arg0 c1_i32_910
  let c1024_i32_911 : BitVec 32 := 1024#32
  let v1725 : BitVec 32 := Scalar.muli v1724 c1024_i32_911
  let c21_i32_913 : BitVec 32 := 21#32
  let c0_i32_914 : BitVec 32 := 0#32
  ![v1725.toNat, 21, 0]
def k0_off23 (i : grid0.Coords) : Fin 3 → Nat :=
  let arg0 : BitVec 32 := BitVec.ofNat 32 (i 0).val
  let c1_i32_917 : BitVec 32 := 1#32
  let v1730 : BitVec 32 := Scalar.subi arg0 c1_i32_917
  let c1024_i32_918 : BitVec 32 := 1024#32
  let v1731 : BitVec 32 := Scalar.muli v1730 c1024_i32_918
  let c22_i32_920 : BitVec 32 := 22#32
  let c0_i32_921 : BitVec 32 := 0#32
  ![v1731.toNat, 22, 0]
def k0_off24 (i : grid0.Coords) : Fin 3 → Nat :=
  let arg0 : BitVec 32 := BitVec.ofNat 32 (i 0).val
  let c1_i32_924 : BitVec 32 := 1#32
  let v1736 : BitVec 32 := Scalar.subi arg0 c1_i32_924
  let c1024_i32_925 : BitVec 32 := 1024#32
  let v1737 : BitVec 32 := Scalar.muli v1736 c1024_i32_925
  let c23_i32_927 : BitVec 32 := 23#32
  let c0_i32_928 : BitVec 32 := 0#32
  ![v1737.toNat, 23, 0]
def k0_off25 (i : grid0.Coords) : Fin 3 → Nat :=
  let arg0 : BitVec 32 := BitVec.ofNat 32 (i 0).val
  let c1_i32_931 : BitVec 32 := 1#32
  let v1742 : BitVec 32 := Scalar.subi arg0 c1_i32_931
  let c1024_i32_932 : BitVec 32 := 1024#32
  let v1743 : BitVec 32 := Scalar.muli v1742 c1024_i32_932
  let c24_i32_934 : BitVec 32 := 24#32
  let c0_i32_935 : BitVec 32 := 0#32
  ![v1743.toNat, 24, 0]
def k0_off26 (i : grid0.Coords) : Fin 3 → Nat :=
  let arg0 : BitVec 32 := BitVec.ofNat 32 (i 0).val
  let c1_i32_938 : BitVec 32 := 1#32
  let v1748 : BitVec 32 := Scalar.subi arg0 c1_i32_938
  let c1024_i32_939 : BitVec 32 := 1024#32
  let v1749 : BitVec 32 := Scalar.muli v1748 c1024_i32_939
  let c25_i32_941 : BitVec 32 := 25#32
  let c0_i32_942 : BitVec 32 := 0#32
  ![v1749.toNat, 25, 0]
def k0_off27 (i : grid0.Coords) : Fin 3 → Nat :=
  let arg0 : BitVec 32 := BitVec.ofNat 32 (i 0).val
  let c1024_i32 : BitVec 32 := 1024#32
  let v65 : BitVec 32 := Scalar.muli arg0 c1024_i32
  let c0_i32_25 : BitVec 32 := 0#32
  let c0_i32_26 : BitVec 32 := 0#32
  ![v65.toNat, 0, 0]
def k0_off28 (i : grid0.Coords) : Fin 3 → Nat :=
  let arg0 : BitVec 32 := BitVec.ofNat 32 (i 0).val
  let c1024_i32_51 : BitVec 32 := 1024#32
  let v124 : BitVec 32 := Scalar.muli arg0 c1024_i32_51
  let c1_i32_52 : BitVec 32 := 1#32
  let c0_i32_53 : BitVec 32 := 0#32
  ![v124.toNat, 1, 0]
def k0_off29 (i : grid0.Coords) : Fin 3 → Nat :=
  let arg0 : BitVec 32 := BitVec.ofNat 32 (i 0).val
  let c1024_i32_80 : BitVec 32 := 1024#32
  let v183 : BitVec 32 := Scalar.muli arg0 c1024_i32_80
  let c2_i32_81 : BitVec 32 := 2#32
  let c0_i32_82 : BitVec 32 := 0#32
  ![v183.toNat, 2, 0]
def k0_off30 (i : grid0.Coords) : Fin 3 → Nat :=
  let arg0 : BitVec 32 := BitVec.ofNat 32 (i 0).val
  let c1024_i32_108 : BitVec 32 := 1024#32
  let v242 : BitVec 32 := Scalar.muli arg0 c1024_i32_108
  let c3_i32_109 : BitVec 32 := 3#32
  let c0_i32_110 : BitVec 32 := 0#32
  ![v242.toNat, 3, 0]
def k0_off31 (i : grid0.Coords) : Fin 3 → Nat :=
  let arg0 : BitVec 32 := BitVec.ofNat 32 (i 0).val
  let c1024_i32_136 : BitVec 32 := 1024#32
  let v301 : BitVec 32 := Scalar.muli arg0 c1024_i32_136
  let c4_i32_137 : BitVec 32 := 4#32
  let c0_i32_138 : BitVec 32 := 0#32
  ![v301.toNat, 4, 0]
def k0_off32 (i : grid0.Coords) : Fin 3 → Nat :=
  let arg0 : BitVec 32 := BitVec.ofNat 32 (i 0).val
  let c1024_i32_164 : BitVec 32 := 1024#32
  let v360 : BitVec 32 := Scalar.muli arg0 c1024_i32_164
  let c5_i32_165 : BitVec 32 := 5#32
  let c0_i32_166 : BitVec 32 := 0#32
  ![v360.toNat, 5, 0]
def k0_off33 (i : grid0.Coords) : Fin 3 → Nat :=
  let arg0 : BitVec 32 := BitVec.ofNat 32 (i 0).val
  let c1024_i32_192 : BitVec 32 := 1024#32
  let v419 : BitVec 32 := Scalar.muli arg0 c1024_i32_192
  let c6_i32_193 : BitVec 32 := 6#32
  let c0_i32_194 : BitVec 32 := 0#32
  ![v419.toNat, 6, 0]
def k0_off34 (i : grid0.Coords) : Fin 3 → Nat :=
  let arg0 : BitVec 32 := BitVec.ofNat 32 (i 0).val
  let c1024_i32_220 : BitVec 32 := 1024#32
  let v478 : BitVec 32 := Scalar.muli arg0 c1024_i32_220
  let c7_i32_221 : BitVec 32 := 7#32
  let c0_i32_222 : BitVec 32 := 0#32
  ![v478.toNat, 7, 0]
def k0_off35 (i : grid0.Coords) : Fin 3 → Nat :=
  let arg0 : BitVec 32 := BitVec.ofNat 32 (i 0).val
  let c1024_i32_248 : BitVec 32 := 1024#32
  let v537 : BitVec 32 := Scalar.muli arg0 c1024_i32_248
  let c8_i32_249 : BitVec 32 := 8#32
  let c0_i32_250 : BitVec 32 := 0#32
  ![v537.toNat, 8, 0]
def k0_off36 (i : grid0.Coords) : Fin 3 → Nat :=
  let arg0 : BitVec 32 := BitVec.ofNat 32 (i 0).val
  let c1024_i32_276 : BitVec 32 := 1024#32
  let v596 : BitVec 32 := Scalar.muli arg0 c1024_i32_276
  let c9_i32_277 : BitVec 32 := 9#32
  let c0_i32_278 : BitVec 32 := 0#32
  ![v596.toNat, 9, 0]
def k0_off37 (i : grid0.Coords) : Fin 3 → Nat :=
  let arg0 : BitVec 32 := BitVec.ofNat 32 (i 0).val
  let c1024_i32_304 : BitVec 32 := 1024#32
  let v655 : BitVec 32 := Scalar.muli arg0 c1024_i32_304
  let c10_i32_305 : BitVec 32 := 10#32
  let c0_i32_306 : BitVec 32 := 0#32
  ![v655.toNat, 10, 0]
def k0_off38 (i : grid0.Coords) : Fin 3 → Nat :=
  let arg0 : BitVec 32 := BitVec.ofNat 32 (i 0).val
  let c1024_i32_332 : BitVec 32 := 1024#32
  let v714 : BitVec 32 := Scalar.muli arg0 c1024_i32_332
  let c11_i32_333 : BitVec 32 := 11#32
  let c0_i32_334 : BitVec 32 := 0#32
  ![v714.toNat, 11, 0]
def k0_off39 (i : grid0.Coords) : Fin 3 → Nat :=
  let arg0 : BitVec 32 := BitVec.ofNat 32 (i 0).val
  let c1024_i32_360 : BitVec 32 := 1024#32
  let v773 : BitVec 32 := Scalar.muli arg0 c1024_i32_360
  let c12_i32_361 : BitVec 32 := 12#32
  let c0_i32_362 : BitVec 32 := 0#32
  ![v773.toNat, 12, 0]
def k0_off40 (i : grid0.Coords) : Fin 3 → Nat :=
  let arg0 : BitVec 32 := BitVec.ofNat 32 (i 0).val
  let c1024_i32_388 : BitVec 32 := 1024#32
  let v832 : BitVec 32 := Scalar.muli arg0 c1024_i32_388
  let c13_i32_389 : BitVec 32 := 13#32
  let c0_i32_390 : BitVec 32 := 0#32
  ![v832.toNat, 13, 0]
def k0_off41 (i : grid0.Coords) : Fin 3 → Nat :=
  let arg0 : BitVec 32 := BitVec.ofNat 32 (i 0).val
  let c1024_i32_416 : BitVec 32 := 1024#32
  let v891 : BitVec 32 := Scalar.muli arg0 c1024_i32_416
  let c14_i32_417 : BitVec 32 := 14#32
  let c0_i32_418 : BitVec 32 := 0#32
  ![v891.toNat, 14, 0]
def k0_off42 (i : grid0.Coords) : Fin 3 → Nat :=
  let arg0 : BitVec 32 := BitVec.ofNat 32 (i 0).val
  let c1024_i32_444 : BitVec 32 := 1024#32
  let v950 : BitVec 32 := Scalar.muli arg0 c1024_i32_444
  let c15_i32_445 : BitVec 32 := 15#32
  let c0_i32_446 : BitVec 32 := 0#32
  ![v950.toNat, 15, 0]
def k0_off43 (i : grid0.Coords) : Fin 3 → Nat :=
  let arg0 : BitVec 32 := BitVec.ofNat 32 (i 0).val
  let c1024_i32_472 : BitVec 32 := 1024#32
  let v1009 : BitVec 32 := Scalar.muli arg0 c1024_i32_472
  let c16_i32_473 : BitVec 32 := 16#32
  let c0_i32_474 : BitVec 32 := 0#32
  ![v1009.toNat, 16, 0]
def k0_off44 (i : grid0.Coords) : Fin 3 → Nat :=
  let arg0 : BitVec 32 := BitVec.ofNat 32 (i 0).val
  let c1024_i32_500 : BitVec 32 := 1024#32
  let v1068 : BitVec 32 := Scalar.muli arg0 c1024_i32_500
  let c17_i32_501 : BitVec 32 := 17#32
  let c0_i32_502 : BitVec 32 := 0#32
  ![v1068.toNat, 17, 0]
def k0_off45 (i : grid0.Coords) : Fin 3 → Nat :=
  let arg0 : BitVec 32 := BitVec.ofNat 32 (i 0).val
  let c1024_i32_528 : BitVec 32 := 1024#32
  let v1127 : BitVec 32 := Scalar.muli arg0 c1024_i32_528
  let c18_i32_529 : BitVec 32 := 18#32
  let c0_i32_530 : BitVec 32 := 0#32
  ![v1127.toNat, 18, 0]
def k0_off46 (i : grid0.Coords) : Fin 3 → Nat :=
  let arg0 : BitVec 32 := BitVec.ofNat 32 (i 0).val
  let c1024_i32_556 : BitVec 32 := 1024#32
  let v1186 : BitVec 32 := Scalar.muli arg0 c1024_i32_556
  let c19_i32_557 : BitVec 32 := 19#32
  let c0_i32_558 : BitVec 32 := 0#32
  ![v1186.toNat, 19, 0]
def k0_off47 (i : grid0.Coords) : Fin 3 → Nat :=
  let arg0 : BitVec 32 := BitVec.ofNat 32 (i 0).val
  let c1024_i32_584 : BitVec 32 := 1024#32
  let v1245 : BitVec 32 := Scalar.muli arg0 c1024_i32_584
  let c20_i32_585 : BitVec 32 := 20#32
  let c0_i32_586 : BitVec 32 := 0#32
  ![v1245.toNat, 20, 0]
def k0_off48 (i : grid0.Coords) : Fin 3 → Nat :=
  let arg0 : BitVec 32 := BitVec.ofNat 32 (i 0).val
  let c1024_i32_612 : BitVec 32 := 1024#32
  let v1304 : BitVec 32 := Scalar.muli arg0 c1024_i32_612
  let c21_i32_613 : BitVec 32 := 21#32
  let c0_i32_614 : BitVec 32 := 0#32
  ![v1304.toNat, 21, 0]
def k0_off49 (i : grid0.Coords) : Fin 3 → Nat :=
  let arg0 : BitVec 32 := BitVec.ofNat 32 (i 0).val
  let c1024_i32_640 : BitVec 32 := 1024#32
  let v1363 : BitVec 32 := Scalar.muli arg0 c1024_i32_640
  let c22_i32_641 : BitVec 32 := 22#32
  let c0_i32_642 : BitVec 32 := 0#32
  ![v1363.toNat, 22, 0]
def k0_off50 (i : grid0.Coords) : Fin 3 → Nat :=
  let arg0 : BitVec 32 := BitVec.ofNat 32 (i 0).val
  let c1024_i32_668 : BitVec 32 := 1024#32
  let v1422 : BitVec 32 := Scalar.muli arg0 c1024_i32_668
  let c23_i32_669 : BitVec 32 := 23#32
  let c0_i32_670 : BitVec 32 := 0#32
  ![v1422.toNat, 23, 0]
def k0_off51 (i : grid0.Coords) : Fin 3 → Nat :=
  let arg0 : BitVec 32 := BitVec.ofNat 32 (i 0).val
  let c1024_i32_696 : BitVec 32 := 1024#32
  let v1481 : BitVec 32 := Scalar.muli arg0 c1024_i32_696
  let c24_i32_697 : BitVec 32 := 24#32
  let c0_i32_698 : BitVec 32 := 0#32
  ![v1481.toNat, 24, 0]
def k0_off52 (i : grid0.Coords) : Fin 3 → Nat :=
  let arg0 : BitVec 32 := BitVec.ofNat 32 (i 0).val
  let c1024_i32_724 : BitVec 32 := 1024#32
  let v1540 : BitVec 32 := Scalar.muli arg0 c1024_i32_724
  let c25_i32_725 : BitVec 32 := 25#32
  let c0_i32_726 : BitVec 32 := 0#32
  ![v1540.toNat, 25, 0]
def k0_cond2 (i : grid0.Coords) : BitVec 1 :=
  let arg0 : BitVec 32 := BitVec.ofNat 32 (i 0).val
  let c15_i32_761 : BitVec 32 := 15#32
  let v1595 : BitVec 1 := Scalar.cmpi .eq arg0 c15_i32_761
  let v1596 : BitVec 32 := Scalar.extui v1595
  let c0_i32_762 : BitVec 32 := 0#32
  let v1597 : BitVec 1 := Scalar.cmpi .ne v1596 c0_i32_762
  v1597

def k0_off53 (i : grid0.Coords) : Fin 3 → Nat :=
  let arg0 : BitVec 32 := BitVec.ofNat 32 (i 0).val
  let c1024_i32_763 : BitVec 32 := 1024#32
  let v1598 : BitVec 32 := Scalar.muli arg0 c1024_i32_763
  let c0_i32_765 : BitVec 32 := 0#32
  let c0_i32_766 : BitVec 32 := 0#32
  ![v1598.toNat, 0, 0]
def k0_off54 (i : grid0.Coords) : Fin 3 → Nat :=
  let arg0 : BitVec 32 := BitVec.ofNat 32 (i 0).val
  let c1024_i32_769 : BitVec 32 := 1024#32
  let v1603 : BitVec 32 := Scalar.muli arg0 c1024_i32_769
  let c1_i32_771 : BitVec 32 := 1#32
  let c0_i32_772 : BitVec 32 := 0#32
  ![v1603.toNat, 1, 0]
def k0_off55 (i : grid0.Coords) : Fin 3 → Nat :=
  let arg0 : BitVec 32 := BitVec.ofNat 32 (i 0).val
  let c1024_i32_775 : BitVec 32 := 1024#32
  let v1608 : BitVec 32 := Scalar.muli arg0 c1024_i32_775
  let c2_i32_777 : BitVec 32 := 2#32
  let c0_i32_778 : BitVec 32 := 0#32
  ![v1608.toNat, 2, 0]
def k0_off56 (i : grid0.Coords) : Fin 3 → Nat :=
  let arg0 : BitVec 32 := BitVec.ofNat 32 (i 0).val
  let c1024_i32_781 : BitVec 32 := 1024#32
  let v1613 : BitVec 32 := Scalar.muli arg0 c1024_i32_781
  let c3_i32_783 : BitVec 32 := 3#32
  let c0_i32_784 : BitVec 32 := 0#32
  ![v1613.toNat, 3, 0]
def k0_off57 (i : grid0.Coords) : Fin 3 → Nat :=
  let arg0 : BitVec 32 := BitVec.ofNat 32 (i 0).val
  let c1024_i32_787 : BitVec 32 := 1024#32
  let v1618 : BitVec 32 := Scalar.muli arg0 c1024_i32_787
  let c4_i32_789 : BitVec 32 := 4#32
  let c0_i32_790 : BitVec 32 := 0#32
  ![v1618.toNat, 4, 0]
def k0_off58 (i : grid0.Coords) : Fin 3 → Nat :=
  let arg0 : BitVec 32 := BitVec.ofNat 32 (i 0).val
  let c1024_i32_793 : BitVec 32 := 1024#32
  let v1623 : BitVec 32 := Scalar.muli arg0 c1024_i32_793
  let c5_i32_795 : BitVec 32 := 5#32
  let c0_i32_796 : BitVec 32 := 0#32
  ![v1623.toNat, 5, 0]
def k0_off59 (i : grid0.Coords) : Fin 3 → Nat :=
  let arg0 : BitVec 32 := BitVec.ofNat 32 (i 0).val
  let c1024_i32_799 : BitVec 32 := 1024#32
  let v1628 : BitVec 32 := Scalar.muli arg0 c1024_i32_799
  let c6_i32_801 : BitVec 32 := 6#32
  let c0_i32_802 : BitVec 32 := 0#32
  ![v1628.toNat, 6, 0]
def k0_off60 (i : grid0.Coords) : Fin 3 → Nat :=
  let arg0 : BitVec 32 := BitVec.ofNat 32 (i 0).val
  let c1024_i32_805 : BitVec 32 := 1024#32
  let v1633 : BitVec 32 := Scalar.muli arg0 c1024_i32_805
  let c7_i32_807 : BitVec 32 := 7#32
  let c0_i32_808 : BitVec 32 := 0#32
  ![v1633.toNat, 7, 0]
def k0_off61 (i : grid0.Coords) : Fin 3 → Nat :=
  let arg0 : BitVec 32 := BitVec.ofNat 32 (i 0).val
  let c1024_i32_811 : BitVec 32 := 1024#32
  let v1638 : BitVec 32 := Scalar.muli arg0 c1024_i32_811
  let c8_i32_813 : BitVec 32 := 8#32
  let c0_i32_814 : BitVec 32 := 0#32
  ![v1638.toNat, 8, 0]
def k0_off62 (i : grid0.Coords) : Fin 3 → Nat :=
  let arg0 : BitVec 32 := BitVec.ofNat 32 (i 0).val
  let c1024_i32_817 : BitVec 32 := 1024#32
  let v1643 : BitVec 32 := Scalar.muli arg0 c1024_i32_817
  let c9_i32_819 : BitVec 32 := 9#32
  let c0_i32_820 : BitVec 32 := 0#32
  ![v1643.toNat, 9, 0]
def k0_off63 (i : grid0.Coords) : Fin 3 → Nat :=
  let arg0 : BitVec 32 := BitVec.ofNat 32 (i 0).val
  let c1024_i32_823 : BitVec 32 := 1024#32
  let v1648 : BitVec 32 := Scalar.muli arg0 c1024_i32_823
  let c10_i32_825 : BitVec 32 := 10#32
  let c0_i32_826 : BitVec 32 := 0#32
  ![v1648.toNat, 10, 0]
def k0_off64 (i : grid0.Coords) : Fin 3 → Nat :=
  let arg0 : BitVec 32 := BitVec.ofNat 32 (i 0).val
  let c1024_i32_829 : BitVec 32 := 1024#32
  let v1653 : BitVec 32 := Scalar.muli arg0 c1024_i32_829
  let c11_i32_831 : BitVec 32 := 11#32
  let c0_i32_832 : BitVec 32 := 0#32
  ![v1653.toNat, 11, 0]
def k0_off65 (i : grid0.Coords) : Fin 3 → Nat :=
  let arg0 : BitVec 32 := BitVec.ofNat 32 (i 0).val
  let c1024_i32_835 : BitVec 32 := 1024#32
  let v1658 : BitVec 32 := Scalar.muli arg0 c1024_i32_835
  let c12_i32_837 : BitVec 32 := 12#32
  let c0_i32_838 : BitVec 32 := 0#32
  ![v1658.toNat, 12, 0]
def k0_off66 (i : grid0.Coords) : Fin 3 → Nat :=
  let arg0 : BitVec 32 := BitVec.ofNat 32 (i 0).val
  let c1024_i32_841 : BitVec 32 := 1024#32
  let v1663 : BitVec 32 := Scalar.muli arg0 c1024_i32_841
  let c13_i32_843 : BitVec 32 := 13#32
  let c0_i32_844 : BitVec 32 := 0#32
  ![v1663.toNat, 13, 0]
def k0_off67 (i : grid0.Coords) : Fin 3 → Nat :=
  let arg0 : BitVec 32 := BitVec.ofNat 32 (i 0).val
  let c1024_i32_847 : BitVec 32 := 1024#32
  let v1668 : BitVec 32 := Scalar.muli arg0 c1024_i32_847
  let c14_i32_849 : BitVec 32 := 14#32
  let c0_i32_850 : BitVec 32 := 0#32
  ![v1668.toNat, 14, 0]
def k0_off68 (i : grid0.Coords) : Fin 3 → Nat :=
  let arg0 : BitVec 32 := BitVec.ofNat 32 (i 0).val
  let c1024_i32_853 : BitVec 32 := 1024#32
  let v1673 : BitVec 32 := Scalar.muli arg0 c1024_i32_853
  let c15_i32_855 : BitVec 32 := 15#32
  let c0_i32_856 : BitVec 32 := 0#32
  ![v1673.toNat, 15, 0]
def k0_off69 (i : grid0.Coords) : Fin 3 → Nat :=
  let arg0 : BitVec 32 := BitVec.ofNat 32 (i 0).val
  let c1024_i32_859 : BitVec 32 := 1024#32
  let v1678 : BitVec 32 := Scalar.muli arg0 c1024_i32_859
  let c16_i32_861 : BitVec 32 := 16#32
  let c0_i32_862 : BitVec 32 := 0#32
  ![v1678.toNat, 16, 0]
def k0_off70 (i : grid0.Coords) : Fin 3 → Nat :=
  let arg0 : BitVec 32 := BitVec.ofNat 32 (i 0).val
  let c1024_i32_865 : BitVec 32 := 1024#32
  let v1683 : BitVec 32 := Scalar.muli arg0 c1024_i32_865
  let c17_i32_867 : BitVec 32 := 17#32
  let c0_i32_868 : BitVec 32 := 0#32
  ![v1683.toNat, 17, 0]
def k0_off71 (i : grid0.Coords) : Fin 3 → Nat :=
  let arg0 : BitVec 32 := BitVec.ofNat 32 (i 0).val
  let c1024_i32_871 : BitVec 32 := 1024#32
  let v1688 : BitVec 32 := Scalar.muli arg0 c1024_i32_871
  let c18_i32_873 : BitVec 32 := 18#32
  let c0_i32_874 : BitVec 32 := 0#32
  ![v1688.toNat, 18, 0]
def k0_off72 (i : grid0.Coords) : Fin 3 → Nat :=
  let arg0 : BitVec 32 := BitVec.ofNat 32 (i 0).val
  let c1024_i32_877 : BitVec 32 := 1024#32
  let v1693 : BitVec 32 := Scalar.muli arg0 c1024_i32_877
  let c19_i32_879 : BitVec 32 := 19#32
  let c0_i32_880 : BitVec 32 := 0#32
  ![v1693.toNat, 19, 0]
def k0_off73 (i : grid0.Coords) : Fin 3 → Nat :=
  let arg0 : BitVec 32 := BitVec.ofNat 32 (i 0).val
  let c1024_i32_883 : BitVec 32 := 1024#32
  let v1698 : BitVec 32 := Scalar.muli arg0 c1024_i32_883
  let c20_i32_885 : BitVec 32 := 20#32
  let c0_i32_886 : BitVec 32 := 0#32
  ![v1698.toNat, 20, 0]
def k0_off74 (i : grid0.Coords) : Fin 3 → Nat :=
  let arg0 : BitVec 32 := BitVec.ofNat 32 (i 0).val
  let c1024_i32_889 : BitVec 32 := 1024#32
  let v1703 : BitVec 32 := Scalar.muli arg0 c1024_i32_889
  let c21_i32_891 : BitVec 32 := 21#32
  let c0_i32_892 : BitVec 32 := 0#32
  ![v1703.toNat, 21, 0]
def k0_off75 (i : grid0.Coords) : Fin 3 → Nat :=
  let arg0 : BitVec 32 := BitVec.ofNat 32 (i 0).val
  let c1024_i32_895 : BitVec 32 := 1024#32
  let v1708 : BitVec 32 := Scalar.muli arg0 c1024_i32_895
  let c22_i32_897 : BitVec 32 := 22#32
  let c0_i32_898 : BitVec 32 := 0#32
  ![v1708.toNat, 22, 0]
def k0_off76 (i : grid0.Coords) : Fin 3 → Nat :=
  let arg0 : BitVec 32 := BitVec.ofNat 32 (i 0).val
  let c1024_i32_901 : BitVec 32 := 1024#32
  let v1713 : BitVec 32 := Scalar.muli arg0 c1024_i32_901
  let c23_i32_903 : BitVec 32 := 23#32
  let c0_i32_904 : BitVec 32 := 0#32
  ![v1713.toNat, 23, 0]
def k0_off77 (i : grid0.Coords) : Fin 3 → Nat :=
  let arg0 : BitVec 32 := BitVec.ofNat 32 (i 0).val
  let c1024_i32_907 : BitVec 32 := 1024#32
  let v1718 : BitVec 32 := Scalar.muli arg0 c1024_i32_907
  let c24_i32_909 : BitVec 32 := 24#32
  let c0_i32_910 : BitVec 32 := 0#32
  ![v1718.toNat, 24, 0]
def k0_off78 (i : grid0.Coords) : Fin 3 → Nat :=
  let arg0 : BitVec 32 := BitVec.ofNat 32 (i 0).val
  let c1024_i32_913 : BitVec 32 := 1024#32
  let v1723 : BitVec 32 := Scalar.muli arg0 c1024_i32_913
  let c25_i32_915 : BitVec 32 := 25#32
  let c0_i32_916 : BitVec 32 := 0#32
  ![v1723.toNat, 25, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x26 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S26x64x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S26x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x101 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mean_ratio" => some ((100 / 99 : ℝ) : EReal)
  | _ => none
-- ==== ReferenceIdeal.lean ====
abbrev S16384x64 : Shape := ⟨2, ![16384, 64]⟩
abbrev S16384x26 : Shape := ⟨2, ![16384, 26]⟩
abbrev S100x26x64 : Shape := ⟨3, ![100, 26, 64]⟩
abbrev S100x26 : Shape := ⟨2, ![100, 26]⟩
abbrev S101 : Shape := ⟨1, ![101]⟩
abbrev S100 : Shape := ⟨1, ![100]⟩
abbrev S100x26x16384 : Shape := ⟨3, ![100, 26, 16384]⟩
abbrev S16384x26x100 : Shape := ⟨3, ![16384, 26, 100]⟩
abbrev S26x100 : Shape := ⟨2, ![26, 100]⟩
abbrev S1x26x100 : Shape := ⟨3, ![1, 26, 100]⟩
abbrev S_ : Shape := ⟨0, ![]⟩
abbrev S16384x26x1 : Shape := ⟨3, ![16384, 26, 1]⟩
abbrev S1x1x100 : Shape := ⟨3, ![1, 1, 100]⟩
abbrev S16384x26x99 : Shape := ⟨3, ![16384, 26, 99]⟩
abbrev S1x1x101 : Shape := ⟨3, ![1, 1, 101]⟩
abbrev S16384x26x101 : Shape := ⟨3, ![16384, 26, 101]⟩
abbrev S1 : Shape := ⟨1, ![1]⟩
abbrev S16384x26x1x1 : Shape := ⟨4, ![16384, 26, 1, 1]⟩
abbrev S1x1x1x1 : Shape := ⟨4, ![1, 1, 1, 1]⟩
abbrev S16384 : Shape := ⟨1, ![16384]⟩

abbrev nBuf : Space → Nat
  | .hbm => 137
  | .vmem => 0
  | .smem => 0
  | _ => 0

abbrev hbmTy0_0 (i : Nat) : BufTy := match i % 128 with
  | 0 => ⟨S16384x64, .f32⟩
  | 1 => ⟨S16384x26, .f32⟩
  | 2 => ⟨S100x26x64, .f32⟩
  | 3 => ⟨S100x26, .f32⟩
  | 4 => ⟨S101, .f32⟩
  | 5 => ⟨S100, .f32⟩
  | 6 => ⟨S100, .f32⟩
  | 7 => ⟨S100, .f32⟩
  | 8 => ⟨S100x26x16384, .f32⟩
  | 9 => ⟨S16384x26x100, .f32⟩
  | 10 => ⟨S26x100, .f32⟩
  | 11 => ⟨S1x26x100, .f32⟩
  | 12 => ⟨S16384x26x100, .f32⟩
  | 13 => ⟨S16384x26x100, .f32⟩
  | 14 => ⟨S_, .f32⟩
  | 15 => ⟨S16384x26, .f32⟩
  | 16 => ⟨S_, .f32⟩
  | 17 => ⟨S16384x26, .f32⟩
  | 18 => ⟨S16384x26, .f32⟩
  | 19 => ⟨S16384x26x1, .f32⟩
  | 20 => ⟨S16384x26x100, .f32⟩
  | 21 => ⟨S16384x26x100, .f32⟩
  | 22 => ⟨S16384x26x100, .f32⟩
  | 23 => ⟨S_, .f32⟩
  | 24 => ⟨S16384x26, .f32⟩
  | 25 => ⟨S16384x26x1, .f32⟩
  | 26 => ⟨S16384x26x1, .f32⟩
  | 27 => ⟨S16384x26x100, .f32⟩
  | 28 => ⟨S16384x26x100, .f32⟩
  | 29 => ⟨S100, .f32⟩
  | 30 => ⟨S1x1x100, .f32⟩
  | 31 => ⟨S16384x26x100, .f32⟩
  | 32 => ⟨S16384x26x100, .f32⟩
  | 33 => ⟨S16384x26x100, .f32⟩
  | 34 => ⟨S_, .f32⟩
  | 35 => ⟨S16384x26, .f32⟩
  | 36 => ⟨S16384x26x1, .f32⟩
  | 37 => ⟨S16384x26x1, .f32⟩
  | 38 => ⟨S16384x26x100, .f32⟩
  | 39 => ⟨S16384x26x100, .f32⟩
  | 40 => ⟨S16384x26x99, .f32⟩
  | 41 => ⟨S16384x26x99, .f32⟩
  | 42 => ⟨S16384x26x99, .f32⟩
  | 43 => ⟨S16384x26x99, .f32⟩
  | 44 => ⟨S_, .f32⟩
  | 45 => ⟨S16384x26, .f32⟩
  | 46 => ⟨S_, .f32⟩
  | 47 => ⟨S16384x26, .f32⟩
  | 48 => ⟨S16384x26, .f32⟩
  | 49 => ⟨S16384x26x100, .f32⟩
  | 50 => ⟨S_, .f32⟩
  | 51 => ⟨S16384x26, .f32⟩
  | 52 => ⟨S_, .f32⟩
  | 53 => ⟨S16384x26, .f32⟩
  | 54 => ⟨S16384x26, .f32⟩
  | 55 => ⟨S16384x26, .f32⟩
  | 56 => ⟨S16384x26x1, .f32⟩
  | 57 => ⟨S1x1x101, .f32⟩
  | 58 => ⟨S16384x26x101, .f32⟩
  | 59 => ⟨S16384x26x101, .f32⟩
  | 60 => ⟨S16384x26x101, .i1⟩
  | 61 => ⟨S16384x26x101, .i32⟩
  | 62 => ⟨S_, .i32⟩
  | 63 => ⟨S16384x26, .i32⟩
  | 64 => ⟨S_, .i32⟩
  | 65 => ⟨S16384x26, .i32⟩
  | 66 => ⟨S16384x26, .i32⟩
  | 67 => ⟨S1, .f32⟩
  | 68 => ⟨S_, .f32⟩
  | 69 => ⟨S16384x26, .f32⟩
  | 70 => ⟨S16384x26, .i1⟩
  | 71 => ⟨S_, .i32⟩
  | 72 => ⟨S_, .i32⟩
  | 73 => ⟨S16384x26, .i32⟩
  | 74 => ⟨S16384x26, .i32⟩
  | 75 => ⟨S1, .f32⟩
  | 76 => ⟨S_, .f32⟩
  | 77 => ⟨S16384x26, .f32⟩
  | 78 => ⟨S16384x26, .i1⟩
  | 79 => ⟨S_, .i32⟩
  | 80 => ⟨S_, .i32⟩
  | 81 => ⟨S16384x26, .i32⟩
  | 82 => ⟨S16384x26, .i32⟩
  | 83 => ⟨S_, .i32⟩
  | 84 => ⟨S_, .i32⟩
  | 85 => ⟨S_, .i32⟩
  | 86 => ⟨S16384x26, .i32⟩
  | 87 => ⟨S16384x26, .i32⟩
  | 88 => ⟨S_, .i32⟩
  | 89 => ⟨S16384x26, .i32⟩
  | 90 => ⟨S16384x26, .i32⟩
  | 91 => ⟨S16384x26x1, .i32⟩
  | 92 => ⟨S_, .i32⟩
  | 93 => ⟨S16384x26x1, .i32⟩
  | 94 => ⟨S16384x26x1, .i1⟩
  | 95 => ⟨S_, .i32⟩
  | 96 => ⟨S16384x26x1, .i32⟩
  | 97 => ⟨S16384x26x1, .i32⟩
  | 98 => ⟨S16384x26x1, .i32⟩
  | 99 => ⟨S16384x26x1x1, .i32⟩
  | 100 => ⟨S1, .i32⟩
  | 101 => ⟨S_, .i32⟩
  | 102 => ⟨S16384x26x1x1, .i32⟩
  | 103 => ⟨S16384x26x1x1, .i1⟩
  | 104 => ⟨S1x1x1x1, .i32⟩
  | 105 => ⟨S16384x26x1x1, .i32⟩
  | 106 => ⟨S16384x26x1x1, .i1⟩
  | 107 => ⟨S16384x26x1x1, .i1⟩
  | 108 => ⟨S_, .i1⟩
  | 109 => ⟨S16384x26x1, .i1⟩
  | 110 => ⟨S16384x26x1, .f32⟩
  | 111 => ⟨S_, .f32⟩
  | 112 => ⟨S16384x26x1, .f32⟩
  | 113 => ⟨S16384x26x1, .f32⟩
  | 114 => ⟨S16384x26, .f32⟩
  | 115 => ⟨S16384x26, .f32⟩
  | 116 => ⟨S_, .f32⟩
  | 117 => ⟨S16384x26, .f32⟩
  | 118 => ⟨S16384x26, .f32⟩
  | 119 => ⟨S16384x26, .f32⟩
  | 120 => ⟨S_, .f32⟩
  | 121 => ⟨S16384x26, .f32⟩
  | 122 => ⟨S16384x26, .i1⟩
  | 123 => ⟨S16384x26, .f32⟩
  | 124 => ⟨S16384x26, .f32⟩
  | 125 => ⟨S_, .f32⟩
  | 126 => ⟨S16384, .f32⟩
  | 127 => ⟨S_, .f32⟩
  | _ => ⟨S16384x64, .f32⟩

abbrev hbmTy0_1 (i : Nat) : BufTy := match i % 128 with
  | 0 => ⟨S16384, .f32⟩
  | 1 => ⟨S_, .f32⟩
  | 2 => ⟨S16384, .f32⟩
  | 3 => ⟨S16384, .f32⟩
  | 4 => ⟨S16384, .f32⟩
  | 5 => ⟨S_, .f32⟩
  | 6 => ⟨S_, .f32⟩
  | 7 => ⟨S_, .f32⟩
  | 8 => ⟨S_, .f32⟩
  | _ => ⟨S16384x64, .f32⟩

abbrev hbmTy (i : Nat) : BufTy := match i / 128 with
  | 0 => hbmTy0_0 i
  | 1 => hbmTy0_1 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_0 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c : Ref sig .tc := ⟨.hbm, 62, rfl⟩
abbrev main_v38 : Ref sig .tc := ⟨.hbm, 63, rfl⟩
abbrev main_c_4 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_5 : Ref sig .tc := ⟨.hbm, 71, rfl⟩
abbrev main_call1_v0 : Ref sig .tc := ⟨.hbm, 72, rfl⟩
abbrev main_call1_v1 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_6 : Ref sig .tc := ⟨.hbm, 79, rfl⟩
abbrev main_call2_v0 : Ref sig .tc := ⟨.hbm, 80, rfl⟩
abbrev main_call2_v1 : Ref sig .tc := ⟨.hbm, 81, rfl⟩
abbrev main_v50 : Ref sig .tc := ⟨.hbm, 82, rfl⟩
abbrev main_c_7 : Ref sig .tc := ⟨.hbm, 83, rfl⟩
abbrev main_c_8 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v51 : Ref sig .tc := ⟨.hbm, 90, rfl⟩
abbrev main_v52 : Ref sig .tc := ⟨.hbm, 91, rfl⟩
abbrev main_call4_c : Ref sig .tc := ⟨.hbm, 92, rfl⟩
abbrev main_call4_v0 : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_c_1 : Ref sig .tc := ⟨.hbm, 100, rfl⟩
abbrev main_call4_c_2 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_3 : Ref sig .tc := ⟨.hbm, 108, rfl⟩
abbrev main_call4_v12 : Ref sig .tc := ⟨.hbm, 109, rfl⟩
abbrev main_call4_v13 : Ref sig .tc := ⟨.hbm, 110, rfl⟩
abbrev main_call4_cst : Ref sig .tc := ⟨.hbm, 111, rfl⟩
abbrev main_call4_v14 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_9 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_10 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_cst_11 : Ref sig .tc := ⟨.hbm, 125, rfl⟩
abbrev main_v63 : Ref sig .tc := ⟨.hbm, 126, rfl⟩
abbrev main_cst_12 : Ref sig .tc := ⟨.hbm, 127, rfl⟩
abbrev main_v64 : Ref sig .tc := ⟨.hbm, 128, rfl⟩
abbrev main_cst_13 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_cst_14 : Ref sig .tc := ⟨.hbm, 133, rfl⟩
abbrev main_v68 : Ref sig .tc := ⟨.hbm, 134, rfl⟩
abbrev main_cst_15 : Ref sig .tc := ⟨.hbm, 135, rfl⟩
abbrev main_v69 : Ref sig .tc := ⟨.hbm, 136, rfl⟩

abbrev nD : Nat := 1
abbrev τ : Topo := Topo.v7x

variable {F : FTy → Type} [FloatOps F]
-- ==== Proof.BodyEq.lean ====
/- The printed kernel body is the loop written out: the same operations in the same order. -/
module

public import proofs.«01_k».proof.Proof.Clean
public import Idealize.ShloMosaic.Lib.Tactic.ProgEq

@[expose] public section

set_option synthInstance.maxSize 4096

noncomputable section

namespace Cert.Kernel.Clean

open Idealize.ShloMosaic Idealize.SL.Sem Cert.Kernel.Gen

variable {F : FTy → Type} [FloatOps F]

set_option maxRecDepth 1000000 in
set_option maxHeartbeats 40000000 in
/-- The printed kernel body is the loop, whichever of its two conditionals are taken. -/
theorem body_eq (i : grid0.Coords) (arg1 : Memref sig .tc .vmem S1024x64 .f32) (harg1 : arg1.IsWhole)
    (arg2 : Memref sig .tc .vmem S1024x26 .f32) (harg2 : arg2.IsWhole) (arg3 : Memref sig .tc .vmem S26x64x100 .f32) (harg3 : arg3.IsWhole) (arg4 : Memref sig .tc .vmem S26x100 .f32) (harg4 : arg4.IsWhole) (arg5 : Memref sig .tc .vmem S1x101 .f32) (harg5 : arg5.IsWhole) (arg6 : Memref sig .tc .hbm S16384x26x100 .f32) (harg6 : arg6.IsWhole) (arg7 : Memref sig .tc .vmem S1x1x128 .f32) (harg7 : arg7.IsWhole) (arg8 : Memref sig .tc .vmem S26x1024x100 .f32) (harg8 : arg8.IsWhole) (arg9 : Memref sig .tc .vmem S3x1024x128 .f32) (harg9 : arg9.IsWhole) (arg10 : DmaSems sig S_) :
    cc0__fused_kernel (F := F) i arg1 harg1 arg2 harg2 arg3 harg3 arg4 harg4 arg5 harg5 arg6 harg6 arg7 harg7 arg8 harg8 arg9 harg9 arg10
      = body i arg1 arg2 arg3 arg4 arg5 arg6 arg7 arg8 arg9 arg10 := by
  by_cases h1 : k0_cond1 i = 1#1 <;> by_cases h2 : k0_cond2 i = 1#1
  all_goals
    unfold cc0__fused_kernel body firstWaits lastWaits k0_part54 k0_part12
    simp only [h1, h2, dif_pos, dif_neg, not_false_eq_true, ↓reduceDIte]
    repeat refine ProgEq.op_congr _ _ _ _ _ _ _ (by rfl) (fun _ => ?_)
    rfl

end Cert.Kernel.Clean

end
-- ==== Proof.Ideal.Clean.lean ====
/- The kernel body of one grid point, written as a loop: the twenty-six printed iterations over the target columns are
   one definition over the column `d`, and the printed body is this loop, by definitional unfolding. -/
module

public import proofs.«01_k».proof.Proof.Gen.KernelIdeal.Skeleton

@[expose] public section

set_option synthInstance.maxSize 4096

noncomputable section

namespace Cert.KernelIdeal.Clean

open Idealize.ShloMosaic Idealize.SL.Sem Cert.KernelIdeal.Gen

variable {F : FTy → Type} [FloatOps F] [Named F]

/-! ## The pure values of one iteration -/

theorem slices_bw (d : Fin 26) : S26x100.Slices ![d.val, 0] S1x100 := by revert d; decide
theorem slices_col (d : Fin 26) : S1024x128.Slices ![0, d.val] S1024x1 := by revert d; decide
theorem inb_t (d : Fin 26) : ∀ a, (![0, d.val] : Fin 2 → Nat) a + S1024x1.size a ≤ S1024x26.size a := by
  revert d; decide
theorem inb_w (d : Fin 26) : ∀ a, (![d.val, 0, 0] : Fin 3 → Nat) a + S1x64x100.size a ≤ S26x64x100.size a := by
  revert d; decide
theorem inb_slot (d : Fin 26) : ∀ a, (![d.val, 0, 0] : Fin 3 → Nat) a + S1x1024x100.size a ≤ S26x1024x100.size a := by
  revert d; decide
theorem inb_acc (k : Fin 3) (d : Fin 26) :
    ∀ a, (![k.val, 0, d.val] : Fin 3 → Nat) a + S1x1024x1.size a ≤ S3x1024x128.size a := by
  revert k d; decide

/-- The unnormalised log densities of column `d`: the scores times the column's weights, plus the column's biases. -/
def U (d : Fin 26) (s : Vec F S1024x64 .f32) (bw : FVec F S26x100 .f32) (w : Vec F S1x64x100 .f32) :
    FVec F S1024x100 .f32 :=
  addf (matmul dot_S1024x64_S64x100_S1024x100_1_0_0_1_n_n none s (shapeCast S64x100 w shapeCasts_S1x64x100_S64x100)
      (constant S1024x100 .f32 0x00000000#32))
    (broadcastTo S1024x100 (extractStridedSlice S1x100 ![d.val, 0] bw (slices_bw d)) broadcasts_S1x100_S1024x100)

/-- The row maxima. -/
def mx (u : FVec F S1024x100 .f32) : FVec F S1024x1 .f32 :=
  shapeCast S1024x1 (multiReduction .maximumf [1] S1024 u 0xFF800000#32 reduces_S1024x100_S1024 (.inl rfl) rfl)
    shapeCasts_S1024_S1024x1

/-- The row's log of the sum of exponentials. -/
def lz (u : FVec F S1024x100 .f32) : FVec F S1024x1 .f32 :=
  addf (mx u) (log (shapeCast S1024x1 (multiReduction .add [1] S1024
    (exp (subf u (broadcastTo S1024x100 (mx u) broadcasts_S1024x1_S1024x100))) 0x00000000#32
    reduces_S1024x100_S1024 (.inl rfl) rfl) shapeCasts_S1024_S1024x1))

/-- The normalised log densities. -/
def logp (u : FVec F S1024x100 .f32) : FVec F S1024x100 .f32 :=
  subf u (broadcastTo S1024x100 (lz u) broadcasts_S1024x1_S1024x100)

/-- The difference of neighbouring bins. -/
def du (u : FVec F S1024x100 .f32) : FVec F S1024x99 .f32 :=
  subf (extractStridedSlice S1024x99 ![0, 1] u slices_S1024x100_o0_1_S1024x99)
    (extractStridedSlice S1024x99 ![0, 0] u slices_S1024x100_o0_0_S1024x99)

/-- The row sums of the squared differences, in every lane. -/
def sdq (ones : FVec F S99x128 .bf16) (u : FVec F S1024x100 .f32) : FVec F S1024x128 .f32 :=
  matmul dot_S1024x99_S99x128_S1024x128_1_0_0_1_n_n none (truncf .bf16 (mulf (du u) (du u)) bitsLt_bf16_f32) ones
    (constant S1024x128 .f32 0x00000000#32)

/-- The row sums of the absolute values, in every lane. -/
def salp (ones : FVec F S100x128 .bf16) (u : FVec F S1024x100 .f32) : FVec F S1024x128 .f32 :=
  matmul dot_S1024x100_S100x128_S1024x128_1_0_0_1_n_n none (truncf .bf16 (absf (logp u)) bitsLt_bf16_f32) ones
    (constant S1024x128 .f32 0x00000000#32)

/-- The entry of the bin the target lies in, as a row sum of the masked entries, in every lane. -/
def selu (blo bhi : FVec F S1x100 .f32) (ones : FVec F S100x128 .bf16) (t : Vec F S1024x1 .f32)
    (u : FVec F S1024x100 .f32) : FVec F S1024x128 .f32 :=
  matmul dot_S1024x100_S100x128_S1024x128_1_0_0_1_n_n none
    (truncf .bf16 (select (andi
        (cmpf .olt (broadcastTo S1024x100 blo broadcasts_S1x100_S1024x100)
          (broadcastTo S1024x100 t broadcasts_S1024x1_S1024x100))
        (cmpf .ole (broadcastTo S1024x100 t broadcasts_S1024x1_S1024x100)
          (broadcastTo S1024x100 bhi broadcasts_S1x100_S1024x100)))
      u (broadcast S1024x100 (Scalar.ofBits .f32 0x00000000#32))) bitsLt_bf16_f32) ones
    (constant S1024x128 .f32 0x00000000#32)

/-- A lane of a row table as the column the accumulator stores. -/
def lane (d : Fin 26) (x : FVec F S1024x128 .f32) : FVec F S1024x1 .f32 :=
  extractStridedSlice S1024x1 ![0, d.val] x (slices_col d)
/-- The column to store. -/
def colOf (x : FVec F S1024x1 .f32) : FVec F S1x1024x1 .f32 := shapeCast S1x1024x1 x shapeCasts_S1024x1_S1x1024x1

/-! ## The loop -/

/-- The copy's destination: the rows of a block and one column of the array the copies fill. -/
abbrev dstOf (arg6 : Memref sig .tc .hbm S16384x26x100 .f32) (o : Fin 3 → ℕ)
    (h : ∀ a, o a + S1024x1x100.size a ≤ S16384x26x100.size a) : Memref sig .tc .hbm S1024x100 .f32 :=
  (arg6.slice (Rect.unit (s := S16384x26x100) o S1024x1x100.size h) (fun _ => rfl)).squeeze S1024x100
    squeezes_S1024x1x100_S1024x100
/-- The copy's source: one slot of the scratch buffer. -/
abbrev slotOf (arg8 : Memref sig .tc .vmem S26x1024x100 .f32) (d : Fin 26) : Memref sig .tc .vmem S1024x100 .f32 :=
  (arg8.slice (Rect.unit (s := S26x1024x100) ![d.val, 0, 0] S1x1024x100.size (inb_slot d)) (fun _ => rfl)).squeeze
    S1024x100 squeezes_S1x1024x100_S1024x100

/-- One iteration: the column's values, the copy of its log densities started, and its three accumulator columns
    stored. -/
def iter (d : Fin 26) (arg2 : Memref sig .tc .vmem S1024x26 .f32) (arg3 : Memref sig .tc .vmem S26x64x100 .f32)
    (arg6 : Memref sig .tc .hbm S16384x26x100 .f32) (arg8 : Memref sig .tc .vmem S26x1024x100 .f32)
    (arg9 : Memref sig .tc .vmem S3x1024x128 .f32) (arg10 : DmaSems sig S_)
    (s : Vec F S1024x64 .f32) (bw : FVec F S26x100 .f32) (blo bhi : FVec F S1x100 .f32)
    (o : Fin 3 → ℕ) (h : ∀ a, o a + S1024x1x100.size a ≤ S16384x26x100.size a) :
    Prog (TpuEff nD τ sig (Elt F) Λ₀ .tc) PUnit := do
  let t : Vec F S1024x1 .f32 ← Prog.lift (.load arg2 (Rect.unit (s := S1024x26) ![0, d.val] S1024x1.size (inb_t d)).toLoadRect (View.loadsAt_vmem h_S1024x1))
  let w : Vec F S1x64x100 .f32 ← Prog.lift (.load arg3 (Rect.unit (s := S26x64x100) ![d.val, 0, 0] S1x64x100.size (inb_w d)).toLoadRect (View.loadsAt_vmem h_S1x64x100))
  let _ : Vec F S1x1024x100 .f32 ← Prog.lift (.load arg8 (Rect.unit (s := S26x1024x100) ![d.val, 0, 0] S1x1024x100.size (inb_slot d)).toLoadRect (View.loadsAt_vmem h_S1x1024x100))
  Prog.lift (.store arg8 (Rect.unit (s := S26x1024x100) ![d.val, 0, 0] S1x1024x100.size (inb_slot d)) (shapeCast S1x1024x100 (logp (U d s bw w)) shapeCasts_S1024x100_S1x1024x100) Finset.univ (View.stores_vmem_bits_univ h_S1x1024x100 rfl) (.inl rfl))
  Prog.lift (.enqueueDma (slotOf arg8 d) (.here (dstOf arg6 o h)) (.dma arg10.sem) ((View.wordExact_bits rfl).reshape _ _) ((View.wordExact_bits rfl).reshape _ _) ⟨Or.inl rfl, trivial⟩)
  let _ : Vec F S1x1024x1 .f32 ← Prog.lift (.load arg9 (Rect.unit (s := S3x1024x128) ![0, 0, d.val] S1x1024x1.size (inb_acc 0 d)).toLoadRect (View.loadsAt_vmem h_S1x1024x1))
  Prog.lift (.store arg9 (Rect.unit (s := S3x1024x128) ![0, 0, d.val] S1x1024x1.size (inb_acc 0 d)) (colOf (subf (lane d (selu blo bhi (k0_pay6 (F := F)) t (U d s bw w))) (lz (U d s bw w)))) Finset.univ (View.stores_vmem_bits_univ h_S1x1024x1 rfl) (.inl rfl))
  let _ : Vec F S1x1024x1 .f32 ← Prog.lift (.load arg9 (Rect.unit (s := S3x1024x128) ![1, 0, d.val] S1x1024x1.size (inb_acc 1 d)).toLoadRect (View.loadsAt_vmem h_S1x1024x1))
  Prog.lift (.store arg9 (Rect.unit (s := S3x1024x128) ![1, 0, d.val] S1x1024x1.size (inb_acc 1 d)) (colOf (lane d (sdq (k0_pay7 (F := F)) (U d s bw w)))) Finset.univ (View.stores_vmem_bits_univ h_S1x1024x1 rfl) (.inl rfl))
  let _ : Vec F S1x1024x1 .f32 ← Prog.lift (.load arg9 (Rect.unit (s := S3x1024x128) ![2, 0, d.val] S1x1024x1.size (inb_acc 2 d)).toLoadRect (View.loadsAt_vmem h_S1x1024x1))
  Prog.lift (.store arg9 (Rect.unit (s := S3x1024x128) ![2, 0, d.val] S1x1024x1.size (inb_acc 2 d)) (colOf (lane d (salp (k0_pay6 (F := F)) (U d s bw w)))) Finset.univ (View.stores_vmem_bits_univ h_S1x1024x1 rfl) (.inl rfl))

/-- Wait for the copy out of slot `d`. -/
def waitFor (d : Fin 26) (arg6 : Memref sig .tc .hbm S16384x26x100 .f32) (arg8 : Memref sig .tc .vmem S26x1024x100 .f32)
    (arg10 : DmaSems sig S_) (o : Fin 3 → ℕ) (h : ∀ a, o a + S1024x1x100.size a ≤ S16384x26x100.size a) :
    Prog (TpuEff nD τ sig (Elt F) Λ₀ .tc) PUnit :=
  Prog.lift (.waitDma2 arg10.sem (slotOf arg8 d) (dstOf arg6 o h) ((View.wordExact_bits rfl).reshape _ _) ((View.wordExact_bits rfl).reshape _ _))

/-- The twenty-six steps of a loop, in order. -/
def seq26 (f : Fin 26 → Prog (TpuEff nD τ sig (Elt F) Λ₀ .tc) PUnit) : Prog (TpuEff nD τ sig (Elt F) Λ₀ .tc) PUnit := do
  f 0; f 1; f 2; f 3; f 4; f 5; f 6; f 7; f 8; f 9; f 10; f 11; f 12; f 13; f 14; f 15; f 16; f 17; f 18; f 19
  f 20; f 21; f 22; f 23; f 24; f 25

/-- The offsets of the copies a point starts. -/
def offNow (i : grid0.Coords) (d : Fin 26) : Fin 3 → ℕ :=
  ![(Scalar.muli (BitVec.ofNat 32 (i 0).val) 1024#32).toNat, d.val, 0]
/-- The offsets of the copies the point before started. -/
def offPrev (i : grid0.Coords) (d : Fin 26) : Fin 3 → ℕ :=
  ![(Scalar.muli (Scalar.subi (BitVec.ofNat 32 (i 0).val) 1#32) 1024#32).toNat, d.val, 0]

/-- The offsets of point `n`'s copy of column `d`, as numbers. -/
abbrev offAt (n : ℕ) (d : Fin 26) : Fin 3 → ℕ := ![1024 * n, d.val, 0]

theorem offAt_inb {n : ℕ} (hn : n < 16) (d : Fin 26) : ∀ a, offAt n d a + S1024x1x100.size a ≤ S16384x26x100.size a := by
  have hd := d.isLt
  intro a
  fin_cases a
  · show 1024 * n + 1024 ≤ 16384; omega
  · show d.val + 1 ≤ 26; omega
  · show 0 + 100 ≤ 100; omega

theorem now_word : ∀ k : Fin 16, (Scalar.muli (BitVec.ofNat 32 k.val) 1024#32).toNat = 1024 * k.val := by decide
theorem prev_word : ∀ k : Fin 16, k.val ≠ 0 →
    (Scalar.muli (Scalar.subi (BitVec.ofNat 32 k.val) 1#32) 1024#32).toNat = 1024 * (k.val - 1) := by decide
theorem cond1_word : ∀ k : Fin 16, Scalar.cmpi .ne (Scalar.extui (Scalar.cmpi .sgt (BitVec.ofNat 32 k.val) 0#32) : BitVec 32) 0#32 = 1#1 ↔ k.val ≠ 0 := by decide

theorem cond2_word : ∀ k : Fin 16, Scalar.cmpi .ne (Scalar.extui (Scalar.cmpi .eq (BitVec.ofNat 32 k.val) 15#32) : BitVec 32) 0#32 = 1#1 ↔ k.val = 15 := by decide

/-- The first conditional is taken from the second point on. -/
theorem cond1_iff (i : grid0.Coords) : k0_cond1 i = 1#1 ↔ (i 0).val ≠ 0 := cond1_word (i 0)

/-- The last conditional is taken at the last point. -/
theorem cond2_iff (i : grid0.Coords) : k0_cond2 i = 1#1 ↔ (i 0).val = 15 := cond2_word (i 0)

theorem offNow_eq (i : grid0.Coords) (d : Fin 26) : offNow i d = offAt (i 0).val d := by
  unfold offNow; rw [now_word (i 0)]
theorem offPrev_eq (i : grid0.Coords) (h : k0_cond1 i = 1#1) (d : Fin 26) : offPrev i d = offAt ((i 0).val - 1) d := by
  unfold offPrev; rw [prev_word (i 0) ((cond1_iff i).mp h)]

theorem offNow_inb (i : grid0.Coords) (d : Fin 26) : ∀ a, offNow i d a + S1024x1x100.size a ≤ S16384x26x100.size a := by
  rw [offNow_eq]; exact offAt_inb (i 0).isLt d
theorem offPrev_inb (i : grid0.Coords) (h : k0_cond1 i = 1#1) (d : Fin 26) :
    ∀ a, offPrev i d a + S1024x1x100.size a ≤ S16384x26x100.size a := by
  rw [offPrev_eq i h]; exact offAt_inb (lt_of_le_of_lt (Nat.sub_le _ _) (i 0).isLt) d

/-- From the second point on, the waits for the copies of the point before. -/
def firstWaits (i : grid0.Coords) (arg6 : Memref sig .tc .hbm S16384x26x100 .f32) (arg8 : Memref sig .tc .vmem S26x1024x100 .f32)
    (arg10 : DmaSems sig S_) : Prog (TpuEff nD τ sig (Elt F) Λ₀ .tc) PUnit :=
  if h1 : k0_cond1 i = 1#1 then seq26 fun d => waitFor d arg6 arg8 arg10 (offPrev i d) (offPrev_inb i h1 d) else pure ⟨⟩

/-- At the last point, the waits for its own copies. -/
def lastWaits (i : grid0.Coords) (arg6 : Memref sig .tc .hbm S16384x26x100 .f32) (arg8 : Memref sig .tc .vmem S26x1024x100 .f32)
    (arg10 : DmaSems sig S_) : Prog (TpuEff nD τ sig (Elt F) Λ₀ .tc) PUnit :=
  if _h2 : k0_cond2 i = 1#1 then seq26 fun d => waitFor d arg6 arg8 arg10 (offNow i d) (offNow_inb i d) else pure ⟨⟩

/-- The body of one grid point: from the second point on the waits for the copies of the point before; the iterations;
    the point's share of the loss; at the last point the waits for its own copies. -/
def body (i : grid0.Coords) (arg1 : Memref sig .tc .vmem S1024x64 .f32) (arg2 : Memref sig .tc .vmem S1024x26 .f32)
    (arg3 : Memref sig .tc .vmem S26x64x100 .f32) (arg4 : Memref sig .tc .vmem S26x100 .f32)
    (arg5 : Memref sig .tc .vmem S1x101 .f32) (arg6 : Memref sig .tc .hbm S16384x26x100 .f32)
    (arg7 : Memref sig .tc .vmem S1x1x128 .f32) (arg8 : Memref sig .tc .vmem S26x1024x100 .f32)
    (arg9 : Memref sig .tc .vmem S3x1024x128 .f32) (arg10 : DmaSems sig S_) :
    Prog (TpuEff nD τ sig (Elt F) Λ₀ .tc) PUnit := do
  let s : Vec F S1024x64 .f32 ← Prog.lift (.load arg1 (Rect.unit (s := S1024x64) ![0, 0] S1024x64.size inb_S1024x64_S1024x64_0_0).toLoadRect (View.loadsAt_vmem h_S1024x64))
  let b : Vec F S1x101 .f32 ← Prog.lift (.load arg5 (Rect.unit (s := S1x101) ![0, 0] S1x101.size inb_S1x101_S1x101_0_0).toLoadRect (View.loadsAt_vmem h_S1x101))
  let bt : Vec F S26x100 .f32 ← Prog.lift (.load arg4 (Rect.unit (s := S26x100) ![0, 0] S26x100.size inb_S26x100_S26x100_0_0).toLoadRect (View.loadsAt_vmem h_S26x100))
  firstWaits i arg6 arg8 arg10
  seq26 fun d => iter d arg2 arg3 arg6 arg8 arg9 arg10 s (k0_pay3 b bt) (k0_pay4 b) (k0_pay5 b) (offNow i d) (offNow_inb i d)
  let a0 : Vec F S1x1024x26 .f32 ← Prog.lift (.load arg9 (Rect.unit (s := S3x1024x128) ![0, 0, 0] S1x1024x26.size inb_S3x1024x128_S1x1024x26_0_0_0).toLoadRect (View.loadsAt_vmem h_S1x1024x26))
  let a1 : Vec F S1x1024x26 .f32 ← Prog.lift (.load arg9 (Rect.unit (s := S3x1024x128) ![1, 0, 0] S1x1024x26.size inb_S3x1024x128_S1x1024x26_1_0_0).toLoadRect (View.loadsAt_vmem h_S1x1024x26))
  let a2 : Vec F S1x1024x26 .f32 ← Prog.lift (.load arg9 (Rect.unit (s := S3x1024x128) ![2, 0, 0] S1x1024x26.size inb_S3x1024x128_S1x1024x26_2_0_0).toLoadRect (View.loadsAt_vmem h_S1x1024x26))
  let t : Vec F S1024x26 .f32 ← Prog.lift (.load arg2 (Rect.unit (s := S1024x26) ![0, 0] S1024x26.size inb_S1024x26_S1024x26_0_0).toLoadRect (View.loadsAt_vmem h_S1024x26))
  let _ : Vec F S1x1x128 .f32 ← Prog.lift (.load arg7 (Rect.unit (s := S1x1x128) ![0, 0, 0] S1x1x128.size inb_S1x1x128_S1x1x128_0_0_0).toLoadRect (View.loadsAt_vmem h_S1x1x128))
  Prog.lift (.store arg7 (Rect.unit (s := S1x1x128) ![0, 0, 0] S1x1x128.size inb_S1x1x128_S1x1x128_0_0_0) (k0_pay1 (k0_pay274 (k0_pay272 t) (k0_pay273 a0 a1 a2 t))) Finset.univ (View.stores_vmem_bits_univ h_S1x1x128 rfl) (.inl rfl))
  lastWaits i arg6 arg8 arg10

end Cert.KernelIdeal.Clean

end
-- ==== Proof.Ideal.Iter.lean ====
/- One iteration of the loop over the target columns, at the memory: what it finds, what it leaves. -/
module

public import proofs.«01_k».proof.Proof.Ideal.Clean
public import proofs.«01_k».proof.Proof.Gen.KernelIdeal.Frame
public import Idealize.ShloMosaic.Lib.Batch
public import Idealize.ShloMosaic.Lib.ViewIndex
public import Idealize.ShloMosaic.Lib.Pipeline.Value

@[expose] public section

set_option synthInstance.maxSize 4096

noncomputable section

namespace Cert.KernelIdeal.Clean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The target column `d` of a block of targets. -/
abbrev tcol (d : Fin 26) (T : Vec F S1024x26 .f32) : Vec F S1024x1 .f32 :=
  fun x => T ((Rect.unit (s := S1024x26) ![0, d.val] S1024x1.size (inb_t d)).emb x)
/-- The weights of column `d`. -/
abbrev wsl (d : Fin 26) (W : Vec F S26x64x100 .f32) : Vec F S1x64x100 .f32 :=
  fun x => W ((Rect.unit (s := S26x64x100) ![d.val, 0, 0] S1x64x100.size (inb_w d)).emb x)

/-- The accumulator's column `d` in its plane `k`, as a rectangle. -/
abbrev accRect (k : Fin 3) (d : Fin 26) : Rect S3x1024x128 :=
  Rect.unit (s := S3x1024x128) ![k.val, 0, d.val] S1x1024x1.size (inb_acc k d)

/-- What the iterations leave in the accumulator's column `d` of plane `k`. -/
def accCol (k : Fin 3) (d : Fin 26) (s : Vec F S1024x64 .f32) (bw : FVec F S26x100 .f32) (blo bhi : FVec F S1x100 .f32)
    (T : Vec F S1024x26 .f32) (W : Vec F S26x64x100 .f32) : FVec F S1x1024x1 .f32 :=
  match k with
  | 0 => colOf (subf (lane d (selu blo bhi (k0_pay6 (F := F)) (tcol d T) (U d s bw (wsl d W)))) (lz (U d s bw (wsl d W))))
  | 1 => colOf (lane d (sdq (k0_pay7 (F := F)) (U d s bw (wsl d W))))
  | 2 => colOf (lane d (salp (k0_pay6 (F := F)) (U d s bw (wsl d W))))

theorem accRect_disjoint {k k' : Fin 3} {d d' : Fin 26} (h : k ≠ k' ∨ d ≠ d') :
    Disjoint (accRect k d).set (accRect k' d').set := by
  rw [Finset.disjoint_left]
  intro i hi hi'
  rw [Rect.mem_set_unit] at hi hi'
  rcases h with h | h
  · have h1 := hi 0; have h2 := hi' 0
    apply h; apply Fin.ext
    simp [S1x1024x1] at h1 h2
    omega
  · have h1 := hi 2; have h2 := hi' 2
    apply h; apply Fin.ext
    simp [S1x1024x1] at h1 h2
    omega

/-- The accumulator after `n` iterations: its columns below `n` hold what the iterations leave. -/
def AccOK (arg9 : Memref sig .tc .vmem S3x1024x128 .f32) (n : ℕ) (col : Fin 3 → Fin 26 → FVec F S1x1024x1 .f32)
    (a : arg9.view.ty.Contents (Elt F)) : Prop :=
  ∀ k d, d.val < n → (arg9.access (accRect k d)).read (Elt F) a = col k d

theorem accOK_step (arg9 : Memref sig .tc .vmem S3x1024x128 .f32) (d : Fin 26) (col : Fin 3 → Fin 26 → FVec F S1x1024x1 .f32)
    (a : arg9.view.ty.Contents (Elt F)) (h : AccOK arg9 d.val col a) :
    AccOK arg9 (d.val + 1) col
      ((arg9.access (accRect 2 d)).write (Elt F) ((arg9.access (accRect 1 d)).write (Elt F)
        ((arg9.access (accRect 0 d)).write (Elt F) a (col 0 d) Finset.univ) (col 1 d) Finset.univ) (col 2 d) Finset.univ) := by
  intro k d' hd'
  have hne : ∀ (k k' : Fin 3) (d d' : Fin 26) (f : arg9.view.ty.Contents (Elt F)) (w), (k ≠ k' ∨ d ≠ d') →
      (arg9.access (accRect k d)).read (Elt F) ((arg9.access (accRect k' d')).write (Elt F) f w Finset.univ)
        = (arg9.access (accRect k d)).read (Elt F) f := fun k k' d d' f w hh =>
    View.read_slice_write_slice_of_disjoint _ _ _ _ _ (View.disjoint_slice (accRect_disjoint hh))
  by_cases hd : d' = d
  · subst hd
    fin_cases k
    · dsimp only
      rw [hne _ _ _ _ _ _ (Or.inl (by decide)), hne _ _ _ _ _ _ (Or.inl (by decide))]; exact View.read_write_univ _ _
    · dsimp only
      rw [hne _ _ _ _ _ _ (Or.inl (by decide))]; exact View.read_write_univ _ _
    · exact View.read_write_univ _ _
  · rw [hne _ _ _ _ _ _ (Or.inr hd), hne _ _ _ _ _ _ (Or.inr hd), hne _ _ _ _ _ _ (Or.inr hd)]
    exact h k d' (by have : d'.val ≠ d.val := fun e => hd (Fin.ext e); omega)

/-- The slot read back after the store is what was stored. -/
theorem slot_read (arg8 : Memref sig .tc .vmem S26x1024x100 .f32) (d : Fin 26) (f : arg8.view.ty.Contents (Elt F))
    (L : FVec F S1024x100 .f32) :
    (slotOf arg8 d).view.read (Elt F) ((arg8.access (Rect.unit (s := S26x1024x100) ![d.val, 0, 0] S1x1024x100.size (inb_slot d))).write
      (Elt F) f (shapeCast S1x1024x100 L shapeCasts_S1024x100_S1x1024x100) Finset.univ) = L := by
  funext x
  have := congrFun (View.read_write_univ (v := arg8.access (Rect.unit (s := S26x1024x100) ![d.val, 0, 0] S1x1024x100.size (inb_slot d)))
    (Val := Elt F) f (shapeCast S1x1024x100 L shapeCasts_S1024x100_S1x1024x100))
  refine (this (Shape.reshapeEquiv _ x)).trans ?_
  exact congrFun (shapeCast_shapeCast L shapeCasts_S1024x100_S1x1024x100 (by decide)) x

/-- Writing through a view what another content reads there leaves that content on the view's set. -/
theorem write_eq_on {sp : Space} {sh : Shape} {e : EltTy} (v : View sig .tc sp sh e) (Z G : v.ty.Contents (Elt F)) (w : sh.Idx → Elt F e)
    (h : v.read (Elt F) G = w) : ∀ i ∈ v.set, v.write (Elt F) Z w Finset.univ i = G i := by
  intro i hi
  have h1 : v.read (Elt F) (v.write (Elt F) Z w Finset.univ) = v.read (Elt F) G := (View.read_write_univ _ _).trans h.symm
  obtain ⟨x, -, rfl⟩ := Finset.mem_map.mp hi
  have h2 := congrFun h1 x
  rw [View.read_apply, View.read_apply] at h2
  exact (cast_inj _).mp h2

theorem pend_split {n : ℕ} (hn : n < 26) (Φ : Fin 26 → sProp 𝕄) :
    bigSep (Transfers.pending n) Φ = iprop(Φ ⟨n, hn⟩ ∗ bigSep (Transfers.pending (n + 1)) Φ) := by
  rw [Transfers.pending_succ hn]; exact bigSep_insert (Transfers.not_mem_pending_succ hn)

/-- A slot of the scratch buffer, at some contents. -/
abbrev slotAny (c : Dev nD) (arg8 : Memref sig .tc .vmem S26x1024x100 .f32) (d : Fin 26) : sProp 𝕄 :=
  iprop(∃ f, (slotOf arg8 d).view.loc (c : Thread nD τ) ↦[(slotOf arg8 d).view.set]{fullShare} f)

section
variable (c : Dev nD) (arg2 : Memref sig .tc .vmem S1024x26 .f32) (arg3 : Memref sig .tc .vmem S26x64x100 .f32)
    (arg6 : Memref sig .tc .hbm S16384x26x100 .f32) (arg8 : Memref sig .tc .vmem S26x1024x100 .f32)
    (arg9 : Memref sig .tc .vmem S3x1024x128 .f32) (arg10 : DmaSems sig S_)
    (s : Vec F S1024x64 .f32) (bw : FVec F S26x100 .f32) (blo bhi : FVec F S1x100 .f32)
    (o : Fin 26 → Fin 3 → ℕ) (h : ∀ d, ∀ a, o d a + S1024x1x100.size a ≤ S16384x26x100.size a)
    (T : Vec F S1024x26 .f32) (W : Vec F S26x64x100 .f32)
    (Z G : arg6.view.ty.Contents (Elt F)) (N : ℕ)

/-- What the copy of column `d` delivers: its piece of the result at the final contents, its slot back. -/
abbrev deliv (d : Fin 26) : sProp 𝕄 :=
  iprop((arg6.view.loc (c : Thread nD τ) ↦[(dstOf arg6 (o d) (h d)).view.set]{fullShare} G) ∗ slotAny c arg8 d)

/-- What the iterations find before step `n`. -/
def iterInv (n : ℕ) : sProp 𝕄 :=
  iprop(owns (c : Thread nD τ) arg2 fullShare T ∗ owns (c : Thread nD τ) arg3 fullShare W
    ∗ bigSep (Transfers.pending n) (fun d => slotAny (F := F) c arg8 d)
    ∗ bigSep (Transfers.pending n) (fun d => (arg6.view.loc (c : Thread nD τ) ↦[(dstOf arg6 (o d) (h d)).view.set]{fullShare} Z : sProp 𝕄))
    ∗ Transfers.Batch (countersEmb (U := Pipeline.UD sig nD τ)) (c : Thread nD τ) (.dma arg10.sem) () N (deliv c arg6 arg8 o h G) n 0
    ∗ ∃ a, ⌜AccOK arg9 n (fun k d => accCol k d s bw blo bhi T W) a⌝ ∗ arg9.view.loc (c : Thread nD τ) ↦[arg9.view.set]{fullShare} a)

set_option maxRecDepth 100000 in
/-- A landed copy is what the column's copy delivers. -/
theorem landed (d : Fin 26) (f8 : arg8.view.ty.Contents (Elt F)) (L : FVec F S1024x100 .f32)
    (hL : (slotOf arg8 d).view.read (Elt F) f8 = L) (hG : (dstOf arg6 (o d) (h d)).view.read (Elt F) G = L) :
    iprop((arg6.view.loc (c : Thread nD τ) ↦[(dstOf arg6 (o d) (h d)).view.set]{fullShare}
        ((dstOf arg6 (o d) (h d)).view.write (Elt F) Z (ReadAs.same.apply ((slotOf arg8 d).view.read (Elt F) f8)) Finset.univ))
      ∗ (arg8.view.loc (c : Thread nD τ) ↦[(slotOf arg8 d).view.set]{fullShare} f8)) ⊢ deliv c arg6 arg8 o h G d := by
  rw [ReadAs.apply_same, hL]
  iintro ⟨H6, H8⟩
  isplitl [H6]
  · have hE : (arg6.view.loc (c : Thread nD τ) ↦[(dstOf arg6 (o d) (h d)).view.set]{fullShare}
        ((dstOf arg6 (o d) (h d)).view.write (Elt F) Z L Finset.univ) : sProp 𝕄)
          = (arg6.view.loc (c : Thread nD τ) ↦[(dstOf arg6 (o d) (h d)).view.set]{fullShare} G) :=
      pointsTo_congr (write_eq_on (dstOf arg6 (o d) (h d)).view Z G L hG)
    iapply (Entails.of_eq hE) $$ H6
  · iexists f8; iexact H8

set_option maxHeartbeats 1000000 in
theorem iter_ok (d : Fin 26)
    (hN : (dstOf arg6 (o d) (h d)).view.amount (.dma arg10.sem) = N)
    (hG : (dstOf arg6 (o d) (h d)).view.read (Elt F) G = logp (U d s bw (wsl d W))) :
    iterInv c arg2 arg3 arg6 arg8 arg9 arg10 s bw blo bhi o h T W Z G N d.val
      ⊢ wp frame (wpE (defs₀ (F := F)) Variants.none (c : Thread nD τ) none) Set.univ
          (iter d arg2 arg3 arg6 arg8 arg9 arg10 s bw blo bhi (o d) (h d))
          (fun _ => iterInv c arg2 arg3 arg6 arg8 arg9 arg10 s bw blo bhi o h T W Z G N (d.val + 1)) := by
  unfold iterInv iter owns
  rw [pend_split d.isLt, pend_split d.isLt]
  iintro ⟨⟨%f2, %hf2, H2⟩, ⟨%f3, %hf3, H3⟩, ⟨⟨%f8, H8⟩, H8s⟩, ⟨H6, H6s⟩, HB, ⟨%a, %ha, H9⟩⟩
  subst hf2 hf3
  iapply (wp_load_rect Variants.none (c : Thread nD τ) none Set.univ (m := arg2) (r := Rect.unit (s := S1024x26) ![0, d.val] S1024x1.size (inb_t d)) (View.set_slice_subset _ _)) $$ H2
  iintro H2
  iapply (wp_load_rect Variants.none (c : Thread nD τ) none Set.univ (m := arg3) (r := Rect.unit (s := S26x64x100) ![d.val, 0, 0] S1x64x100.size (inb_w d)) (View.set_slice_subset _ _)) $$ H3
  iintro H3
  iapply (wp_load_rect Variants.none (c : Thread nD τ) none Set.univ (m := arg8) (r := Rect.unit (s := S26x1024x100) ![d.val, 0, 0] S1x1024x100.size (inb_slot d)) (View.set_reshape (v := arg8.access _) _).ge) $$ H8
  iintro H8
  iapply (wp_store Variants.none (c : Thread nD τ) none Set.univ (m := arg8) (r := Rect.unit (s := S26x1024x100) ![d.val, 0, 0] S1x1024x100.size (inb_slot d)) (View.set_reshape (v := arg8.access _) _).ge) $$ H8
  iintro H8
  iapply (Transfers.wp_dmaBatch (countersEmb (U := Pipeline.UD sig nD τ)) Variants.none (c : Thread nD τ) none
    (src := slotOf arg8 d) (dst := dstOf arg6 (o d) (h d)) (sm := .dma arg10.sem)
    (D := deliv c arg6 arg8 o h G) () N hN Finset.Subset.rfl d.isLt (Nat.zero_le _)
    (landed c arg6 arg8 o h Z G d _ _ (slot_read arg8 d f8 _) hG)) $$ [H8 H6 HB]
  · isplitl [H8]; · iexact H8
    isplitl [H6] <;> iassumption
  iintro HB
  iapply (wp_load_rect Variants.none (c : Thread nD τ) none Set.univ (m := arg9) (r := accRect 0 d) (View.set_slice_subset _ _)) $$ H9
  iintro H9
  iapply (wp_store Variants.none (c : Thread nD τ) none Set.univ (m := arg9) (r := accRect 0 d) (View.set_slice_subset _ _)) $$ H9
  iintro H9
  iapply (wp_load_rect Variants.none (c : Thread nD τ) none Set.univ (m := arg9) (r := accRect 1 d) (View.set_slice_subset _ _)) $$ H9
  iintro H9
  iapply (wp_store Variants.none (c : Thread nD τ) none Set.univ (m := arg9) (r := accRect 1 d) (View.set_slice_subset _ _)) $$ H9
  iintro H9
  iapply (wp_load_rect Variants.none (c : Thread nD τ) none Set.univ (m := arg9) (r := accRect 2 d) (View.set_slice_subset _ _)) $$ H9
  iintro H9
  iapply (wp_store Variants.none (c : Thread nD τ) none Set.univ (m := arg9) (r := accRect 2 d) (View.set_slice_subset _ _)) $$ H9
  iintro H9
  iapply (Entails.of_eq (wp_ret _ _ _ _ _).symm)
  imodintro
  isplitl [H2]
  · iexists f2
    isplitr
    · ipureintro; rfl
    · iexact H2
  isplitl [H3]
  · iexists f3
    isplitr
    · ipureintro; rfl
    · iexact H3
  isplitl [H8s]; · iexact H8s
  isplitl [H6s]; · iexact H6s
  isplitl [HB]; · iexact HB
  iexists _
  isplitr; swap; · iexact H9
  ipureintro
  exact accOK_step arg9 d _ a ha
end

end Cert.KernelIdeal.Clean

end
-- ==== Proof.Ideal.Point.lean ====
/- The body at one grid point: the waits, the iterations, the point's share of the loss. -/
module

public import proofs.«01_k».proof.Proof.Ideal.Iter

@[expose] public section

set_option synthInstance.maxSize 4096

noncomputable section

namespace Cert.KernelIdeal.Clean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- Twenty-six steps, each from one invariant to the next. -/
theorem seq26_ok (c : Dev nD) (f : Fin 26 → Prog (TpuEff nD τ sig (Elt F) Λ₀ .tc) PUnit) (I : ℕ → sProp 𝕄)
    (h : ∀ d : Fin 26, I d.val ⊢ wp frame (wpE (defs₀ (F := F)) Variants.none (c : Thread nD τ) none) Set.univ (f d) (fun _ => I (d.val + 1))) :
    I 0 ⊢ wp frame (wpE (defs₀ (F := F)) Variants.none (c : Thread nD τ) none) Set.univ (seq26 f) (fun _ => I 26) := by
  unfold seq26
  simp only [wp_bind]
  refine (h 0).trans (wp_mono _ _ _ fun _ => ?_)
  refine (h 1).trans (wp_mono _ _ _ fun _ => ?_)
  refine (h 2).trans (wp_mono _ _ _ fun _ => ?_)
  refine (h 3).trans (wp_mono _ _ _ fun _ => ?_)
  refine (h 4).trans (wp_mono _ _ _ fun _ => ?_)
  refine (h 5).trans (wp_mono _ _ _ fun _ => ?_)
  refine (h 6).trans (wp_mono _ _ _ fun _ => ?_)
  refine (h 7).trans (wp_mono _ _ _ fun _ => ?_)
  refine (h 8).trans (wp_mono _ _ _ fun _ => ?_)
  refine (h 9).trans (wp_mono _ _ _ fun _ => ?_)
  refine (h 10).trans (wp_mono _ _ _ fun _ => ?_)
  refine (h 11).trans (wp_mono _ _ _ fun _ => ?_)
  refine (h 12).trans (wp_mono _ _ _ fun _ => ?_)
  refine (h 13).trans (wp_mono _ _ _ fun _ => ?_)
  refine (h 14).trans (wp_mono _ _ _ fun _ => ?_)
  refine (h 15).trans (wp_mono _ _ _ fun _ => ?_)
  refine (h 16).trans (wp_mono _ _ _ fun _ => ?_)
  refine (h 17).trans (wp_mono _ _ _ fun _ => ?_)
  refine (h 18).trans (wp_mono _ _ _ fun _ => ?_)
  refine (h 19).trans (wp_mono _ _ _ fun _ => ?_)
  refine (h 20).trans (wp_mono _ _ _ fun _ => ?_)
  refine (h 21).trans (wp_mono _ _ _ fun _ => ?_)
  refine (h 22).trans (wp_mono _ _ _ fun _ => ?_)
  refine (h 23).trans (wp_mono _ _ _ fun _ => ?_)
  refine (h 24).trans (wp_mono _ _ _ fun _ => ?_)
  exact h 25

/-- A cell of the accumulator's first twenty-six columns, in its one column. -/
def colIdx (x : S1x1024x26.Idx) : S1x1024x1.Idx := fun a => match a with
  | ⟨0, _⟩ => ⟨(x 0).val, (x 0).isLt⟩ | ⟨1, _⟩ => ⟨(x 1).val, (x 1).isLt⟩ | ⟨2, _⟩ => ⟨0, Nat.one_pos⟩

/-- What the iterations leave in plane `k` of the accumulator, in its first twenty-six columns. -/
def accPlane (k : Fin 3) (s : Vec F S1024x64 .f32) (bw : FVec F S26x100 .f32) (blo bhi : FVec F S1x100 .f32)
    (T : Vec F S1024x26 .f32) (W : Vec F S26x64x100 .f32) : Vec F S1x1024x26 .f32 :=
  fun x => accCol k (x 2) s bw blo bhi T W (colIdx x)

theorem inb_plane (k : Fin 3) : ∀ a, (![k.val, 0, 0] : Fin 3 → Nat) a + S1x1024x26.size a ≤ S3x1024x128.size a := by
  revert k; decide

theorem acc_read (arg9 : Memref sig .tc .vmem S3x1024x128 .f32) (k : Fin 3) (s : Vec F S1024x64 .f32) (bw : FVec F S26x100 .f32)
    (blo bhi : FVec F S1x100 .f32) (T : Vec F S1024x26 .f32) (W : Vec F S26x64x100 .f32) (a : arg9.view.ty.Contents (Elt F))
    (h : AccOK arg9 26 (fun k d => accCol k d s bw blo bhi T W) a) :
    (arg9.access (Rect.unit (s := S3x1024x128) ![k.val, 0, 0] S1x1024x26.size (inb_plane k))).read (Elt F) a
      = accPlane k s bw blo bhi T W := by
  funext x
  have := congrFun (h k (x 2) (x 2).isLt) (colIdx x)
  refine Eq.trans ?_ this
  show arg9.view.read (Elt F) a _ = arg9.view.read (Elt F) a _
  congr 1
  clear this
  funext b
  apply Fin.ext
  fin_cases b
  · rfl
  · rfl
  · show 0 + 1 * (x 2).val = (x 2).val + 1 * 0; omega

/-- The point's share of the loss, in every lane of its block: from the point's rows `s` and targets `T`, the weights `W`,
    the biases `bt` and the bins `b`. -/
def lossBlk (s : Vec F S1024x64 .f32) (T : Vec F S1024x26 .f32) (W : Vec F S26x64x100 .f32) (bt : Vec F S26x100 .f32)
    (b : Vec F S1x101 .f32) : Vec F S1x1x128 .f32 :=
  k0_pay1 (k0_pay274 (k0_pay272 T) (k0_pay273
    (accPlane 0 s (k0_pay3 b bt) (k0_pay4 b) (k0_pay5 b) T W)
    (accPlane 1 s (k0_pay3 b bt) (k0_pay4 b) (k0_pay5 b) T W)
    (accPlane 2 s (k0_pay3 b bt) (k0_pay4 b) (k0_pay5 b) T W) T))

/-- The whole of a memref read as a slice is what the memref reads. -/
theorem read_whole {sp : Space} {sh : Shape} {e : EltTy} (M : Memref sig .tc sp sh e) (f : M.view.ty.Contents (Elt F)) (o : Fin sh.rank → ℕ)
    (ho : ∀ a, o a = 0) (h : ∀ a, o a + sh.size a ≤ sh.size a) :
    (M.access (Rect.unit (s := sh) o sh.size h)).read (Elt F) f = M.view.read (Elt F) f := by
  funext x
  show M.view.read (Elt F) f _ = M.view.read (Elt F) f _
  congr 1
  funext b
  apply Fin.ext
  rw [Rect.emb_apply]; simp [ho b]

section
variable (c : Dev nD) (arg1 : Memref sig .tc .vmem S1024x64 .f32) (arg2 : Memref sig .tc .vmem S1024x26 .f32) (arg3 : Memref sig .tc .vmem S26x64x100 .f32)
    (arg4 : Memref sig .tc .vmem S26x100 .f32) (arg5 : Memref sig .tc .vmem S1x101 .f32)
    (arg6 : Memref sig .tc .hbm S16384x26x100 .f32) (arg7 : Memref sig .tc .vmem S1x1x128 .f32) (arg8 : Memref sig .tc .vmem S26x1024x100 .f32)
    (arg9 : Memref sig .tc .vmem S3x1024x128 .f32) (arg10 : DmaSems sig S_)
    (s : Vec F S1024x64 .f32) (bw : FVec F S26x100 .f32) (blo bhi : FVec F S1x100 .f32)
    (o : Fin 26 → Fin 3 → ℕ) (h : ∀ d, ∀ a, o d a + S1024x1x100.size a ≤ S16384x26x100.size a)
    (T : Vec F S1024x26 .f32) (W : Vec F S26x64x100 .f32)
    (Z G : arg6.view.ty.Contents (Elt F)) (N : ℕ)

/-- The pieces of a block of the result, at contents `Z`. -/
abbrev pieces : sProp 𝕄 :=
  bigSep Finset.univ fun d => (arg6.view.loc (c : Thread nD τ) ↦[(dstOf arg6 (o d) (h d)).view.set]{fullShare} Z : sProp 𝕄)
/-- The slots of the scratch buffer, each at some contents. -/
abbrev slots : sProp 𝕄 := bigSep Finset.univ fun d => slotAny (F := F) c arg8 d
/-- The accumulator at some contents. -/
abbrev accAny : sProp 𝕄 := iprop(∃ a, arg9.view.loc (c : Thread nD τ) ↦[arg9.view.set]{fullShare} a)
/-- The core owes nothing, whatever its waits have recorded. -/
abbrev owesAny : sProp 𝕄 := iprop(∃ Ws : Waits sig Unit, owes (c : Thread nD τ) 0 Ws)
/-- The point's copies, all in flight. -/
abbrev flying : sProp 𝕄 :=
  Transfers.Batch (countersEmb (U := Pipeline.UD sig nD τ)) (c : Thread nD τ) (.dma arg10.sem) () N (deliv c arg6 arg8 o h G) 26 0

instance deliv_storable (d : Fin 26) : Storable (upEmb : UEmb _ 𝕄) (deliv c arg6 arg8 o h G d) := by infer_instance

/-- What the waits find before wait `n`. -/
def waitInv (n : ℕ) : sProp 𝕄 :=
  if n < 26 then
    iprop(Transfers.Batch (countersEmb (U := Pipeline.UD sig nD τ)) (c : Thread nD τ) (.dma arg10.sem) () N (deliv c arg6 arg8 o h G) 26 (n * N)
      ∗ owesAny (F := F) c)
  else iprop(pieces c arg6 o h G ∗ slots c arg8 ∗ semVal ((c : Thread nD τ), SemLoc.dma arg10.sem) 0 ∗ owesAny (F := F) c)

theorem wait_step (hN : ∀ d, (dstOf arg6 (o d) (h d)).view.dmaCredit = N) (hN0 : 0 < N) (d : Fin 26) :
    waitInv c arg6 arg8 arg10 o h G N d.val
      ⊢ wp frame (wpE (defs₀ (F := F)) Variants.none (c : Thread nD τ) none) Set.univ (waitFor d arg6 arg8 arg10 (o d) (h d))
          (fun _ => waitInv c arg6 arg8 arg10 o h G N (d.val + 1)) := by
  unfold waitInv waitFor
  rw [if_pos d.isLt]
  iintro ⟨HB, ⟨%Ws, HW⟩⟩
  have hs : d.val * N + N = (d.val + 1) * N := (Nat.succ_mul _ _).symm
  by_cases hd : d.val + 1 < 26
  · have hu : d.val * N + N < N * 26 := by
      rw [hs, Nat.mul_comm N]; exact Nat.mul_lt_mul_of_pos_right hd hN0
    rw [if_pos hd]
    iapply (Transfers.wp_waitBatch (countersEmb (U := Pipeline.UD sig nD τ)) Variants.none (c : Thread nD τ) none
      (srcw := slotOf arg8 d) (dstw := dstOf arg6 (o d) (h d)) (sem := arg10.sem) () (hN d)
      (D := deliv c arg6 arg8 o h G) hu) $$ [HB HW]
    · isplitl [HB] <;> iassumption
    iintro ⟨HB, HW⟩
    iapply (Entails.of_eq (wp_ret _ _ _ _ _).symm)
    imodintro
    isplitl [HB]
    · rw [← hs]; iexact HB
    · iexists _; iexact HW
  · have hu : d.val * N + N = N * 26 := by
      rw [hs, Nat.mul_comm N, show d.val + 1 = 26 from by have := d.isLt; omega]
    rw [if_neg hd]
    iapply (Transfers.wp_waitBatchLast (countersEmb (U := Pipeline.UD sig nD τ)) Variants.none (c : Thread nD τ) none
      (srcw := slotOf arg8 d) (dstw := dstOf arg6 (o d) (h d)) (sem := arg10.sem) () (hN d)
      (D := deliv c arg6 arg8 o h G) hN0 hu) $$ [HB HW]
    · isplitl [HB] <;> iassumption
    iintro ⟨HD, HS, HW⟩
    iapply (Entails.of_eq (wp_ret _ _ _ _ _).symm)
    imodintro
    have hsplit : bigSep Finset.univ (deliv c arg6 arg8 o h G) = iprop(pieces c arg6 o h G ∗ slots (F := F) c arg8) :=
      BI.bigSep_sep Finset.univ _ _
    ihave HD' := (Entails.of_eq hsplit) $$ HD
    icases HD' with ⟨HP, HL⟩
    isplitl [HP]; · iexact HP
    isplitl [HL]; · iexact HL
    isplitl [HS]; · iexact HS
    iexists _; iexact HW

/-- The waits for a point's copies give back the block's pieces at the final contents, the slots and the semaphore. -/
theorem waits_ok (hN : ∀ d, (dstOf arg6 (o d) (h d)).view.dmaCredit = N) (hN0 : 0 < N) :
    iprop(flying c arg6 arg8 arg10 o h G N ∗ owesAny (F := F) c)
      ⊢ wp frame (wpE (defs₀ (F := F)) Variants.none (c : Thread nD τ) none) Set.univ (seq26 fun d => waitFor d arg6 arg8 arg10 (o d) (h d))
          (fun _ => iprop(pieces c arg6 o h G ∗ slots c arg8 ∗ semVal ((c : Thread nD τ), SemLoc.dma arg10.sem) 0 ∗ owesAny (F := F) c)) := by
  have := seq26_ok c _ _ (wait_step c arg6 arg8 arg10 o h G N hN hN0)
  unfold waitInv at this
  simpa using this

/-- The iterations: from the semaphore at zero, the slots and the block's pieces, to the block's copies in flight and the
    accumulator's columns filled. -/
theorem iters_ok (hN : ∀ d, (dstOf arg6 (o d) (h d)).view.dmaCredit = N)
    (hG : ∀ d, (dstOf arg6 (o d) (h d)).view.read (Elt F) G = logp (U d s bw (wsl d W))) :
    iprop(owns (c : Thread nD τ) arg2 fullShare T ∗ owns (c : Thread nD τ) arg3 fullShare W ∗ pieces c arg6 o h Z ∗ slots c arg8
        ∗ semVal ((c : Thread nD τ), SemLoc.dma arg10.sem) 0 ∗ accAny (F := F) c arg9)
      ⊢ wp frame (wpE (defs₀ (F := F)) Variants.none (c : Thread nD τ) none) Set.univ
          (seq26 fun d => iter d arg2 arg3 arg6 arg8 arg9 arg10 s bw blo bhi (o d) (h d))
          (fun _ => iprop(owns (c : Thread nD τ) arg2 fullShare T ∗ owns (c : Thread nD τ) arg3 fullShare W
            ∗ flying c arg6 arg8 arg10 o h G N
            ∗ ∃ a, ⌜AccOK arg9 26 (fun k d => accCol k d s bw blo bhi T W) a⌝ ∗ arg9.view.loc (c : Thread nD τ) ↦[arg9.view.set]{fullShare} a)) := by
  iintro ⟨H2, H3, HP, HL, HS, ⟨%a, H9⟩⟩
  imod (Transfers.batch_alloc' (Lvl := ℕ) (countersEmb (U := Pipeline.UD sig nD τ)) (c : Thread nD τ) () N
    (deliv c arg6 arg8 o h G) (sm := SemLoc.dma arg10.sem) (E := Set.univ)) $$ HS with HB
  iapply ((seq26_ok c _ _ (fun d => iter_ok c arg2 arg3 arg6 arg8 arg9 arg10 s bw blo bhi o h T W Z G N d (hN d) (hG d))).trans
    (wp_mono _ _ _ fun _ => ?_))
  · unfold iterInv
    iintro ⟨H2, H3, -, -, HB, H9⟩
    isplitl [H2]; · iexact H2
    isplitl [H3]; · iexact H3
    isplitl [HB]; · iexact HB
    iexact H9
  · unfold iterInv
    rw [Transfers.pending_zero]
    isplitl [H2]; · iexact H2
    isplitl [H3]; · iexact H3
    isplitl [HL]; · iexact HL
    isplitl [HP]; · iexact HP
    isplitl [HB]; · iexact HB
    iexists a
    isplitr
    · ipureintro; intro k d hd; exact absurd hd (Nat.not_lt_zero _)
    · iexact H9
end

end Cert.KernelIdeal.Clean

end
-- ==== Proof.Ideal.Tail.lean ====
/- The body at one grid point, from its parts. -/
module

public import proofs.«01_k».proof.Proof.Ideal.Point

@[expose] public section

set_option synthInstance.maxSize 4096

noncomputable section

namespace Cert.KernelIdeal.Clean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

variable (c : Dev nD) (i : grid0.Coords) (arg1 : Memref sig .tc .vmem S1024x64 .f32) (arg2 : Memref sig .tc .vmem S1024x26 .f32) (arg3 : Memref sig .tc .vmem S26x64x100 .f32)
    (arg4 : Memref sig .tc .vmem S26x100 .f32) (arg5 : Memref sig .tc .vmem S1x101 .f32)
    (arg6 : Memref sig .tc .hbm S16384x26x100 .f32) (arg7 : Memref sig .tc .vmem S1x1x128 .f32) (arg8 : Memref sig .tc .vmem S26x1024x100 .f32)
    (arg9 : Memref sig .tc .vmem S3x1024x128 .f32) (arg10 : DmaSems sig S_)
    (s : Vec F S1024x64 .f32) (T : Vec F S1024x26 .f32) (W : Vec F S26x64x100 .f32) (bt : Vec F S26x100 .f32) (b : Vec F S1x101 .f32)
    (Z G : arg6.view.ty.Contents (Elt F)) (N : ℕ)

/-- The semaphore at zero and the slots, nothing in flight. -/
abbrev idle : sProp 𝕄 := iprop(slots (F := F) c arg8 ∗ semVal ((c : Thread nD τ), SemLoc.dma arg10.sem) 0)

/-- What a point finds of the point before: its copies in flight, if there is one. -/
def prevIn : sProp 𝕄 :=
  if h : k0_cond1 i = 1#1 then flying c arg6 arg8 arg10 (offPrev i) (offPrev_inb i h) G N else idle (F := F) c arg8 arg10
/-- What a point leaves of the point before: its block of the result at the final contents, if there is one. -/
def prevOut : sProp 𝕄 :=
  if h : k0_cond1 i = 1#1 then pieces c arg6 (offPrev i) (offPrev_inb i h) G else iprop(⌜True⌝)
/-- What a point leaves of its own block: its copies in flight, or at the last point the block at the final contents. -/
def nowOut : sProp 𝕄 :=
  if k0_cond2 i = 1#1 then iprop(pieces c arg6 (offNow i) (offNow_inb i) G ∗ idle (F := F) c arg8 arg10)
  else flying c arg6 arg8 arg10 (offNow i) (offNow_inb i) G N

theorem first_ok (hN : ∀ o h, (dstOf arg6 o h).view.dmaCredit = N) (hN0 : 0 < N) :
    iprop(prevIn c i arg6 arg8 arg10 G N ∗ owesAny (F := F) c)
      ⊢ wp frame (wpE (defs₀ (F := F)) Variants.none (c : Thread nD τ) none) Set.univ
          (firstWaits i arg6 arg8 arg10)
          (fun _ => iprop(prevOut c i arg6 G ∗ idle (F := F) c arg8 arg10 ∗ owesAny (F := F) c)) := by
  unfold prevIn prevOut firstWaits
  by_cases h1 : k0_cond1 i = 1#1
  · simp only [dif_pos h1]
    refine (waits_ok c arg6 arg8 arg10 (offPrev i) (offPrev_inb i h1) G N (fun d => hN _ _) hN0).trans (wp_mono _ _ _ fun _ => ?_)
    iintro ⟨HP, HL, HS, HW⟩
    isplitl [HP]; · iexact HP
    isplitl [HL HS]
    · isplitl [HL] <;> iassumption
    iexact HW
  · simp only [dif_neg h1]
    iintro ⟨HI, HW⟩
    iapply (Entails.of_eq (wp_ret _ _ _ _ _).symm)
    imodintro
    isplitr; · ipureintro; trivial
    isplitl [HI] <;> iassumption

theorem last_ok (hN : ∀ o h, (dstOf arg6 o h).view.dmaCredit = N) (hN0 : 0 < N) :
    iprop(flying c arg6 arg8 arg10 (offNow i) (offNow_inb i) G N ∗ owesAny (F := F) c)
      ⊢ wp frame (wpE (defs₀ (F := F)) Variants.none (c : Thread nD τ) none) Set.univ
          (lastWaits i arg6 arg8 arg10)
          (fun _ => iprop(nowOut c i arg6 arg8 arg10 G N ∗ owesAny (F := F) c)) := by
  unfold nowOut lastWaits
  by_cases h2 : k0_cond2 i = 1#1
  · simp only [dif_pos h2, if_pos h2]
    refine (waits_ok c arg6 arg8 arg10 (offNow i) (offNow_inb i) G N (fun d => hN _ _) hN0).trans (wp_mono _ _ _ fun _ => ?_)
    iintro ⟨HP, HL, HS, HW⟩
    isplitl [HP HL HS]
    · isplitl [HP]; · iexact HP
      isplitl [HL] <;> iassumption
    iexact HW
  · simp only [dif_neg h2, if_neg h2]
    iintro ⟨HI, HW⟩
    iapply (Entails.of_eq (wp_ret _ _ _ _ _).symm)
    imodintro
    isplitl [HI] <;> iassumption

/-- A memref owned at a reading, its whole read by a load. -/
theorem zeros2 : ∀ a : Fin 2, (![0, 0] : Fin 2 → ℕ) a = 0 := by decide
theorem zeros3 : ∀ a : Fin 3, (![0, 0, 0] : Fin 3 → ℕ) a = 0 := by decide

set_option maxHeartbeats 1000000 in
/-- One grid point. -/
theorem point_ok (hN : ∀ o h, (dstOf arg6 o h).view.dmaCredit = N) (hN0 : 0 < N)
    (hG : ∀ d, (dstOf arg6 (offNow i d) (offNow_inb i d)).view.read (Elt F) G = logp (U d s (k0_pay3 b bt) (wsl d W))) :
    iprop(owns (c : Thread nD τ) arg1 fullShare s ∗ owns (c : Thread nD τ) arg2 fullShare T ∗ owns (c : Thread nD τ) arg3 fullShare W
        ∗ owns (c : Thread nD τ) arg4 fullShare bt ∗ owns (c : Thread nD τ) arg5 fullShare b
        ∗ (∃ v, owns (c : Thread nD τ) arg7 fullShare v)
        ∗ pieces c arg6 (offNow i) (offNow_inb i) Z ∗ accAny (F := F) c arg9
        ∗ prevIn c i arg6 arg8 arg10 G N ∗ owesAny (F := F) c)
      ⊢ wp frame (wpE (defs₀ (F := F)) Variants.none (c : Thread nD τ) none) Set.univ
          (body i arg1 arg2 arg3 arg4 arg5 arg6 arg7 arg8 arg9 arg10)
          (fun _ => iprop(owns (c : Thread nD τ) arg1 fullShare s ∗ owns (c : Thread nD τ) arg2 fullShare T ∗ owns (c : Thread nD τ) arg3 fullShare W
            ∗ owns (c : Thread nD τ) arg4 fullShare bt ∗ owns (c : Thread nD τ) arg5 fullShare b
            ∗ owns (c : Thread nD τ) arg7 fullShare (lossBlk s T W bt b)
            ∗ accAny (F := F) c arg9 ∗ prevOut c i arg6 G ∗ nowOut c i arg6 arg8 arg10 G N ∗ owesAny (F := F) c)) := by
  have hit := iters_ok c arg2 arg3 arg6 arg8 arg9 arg10 s (k0_pay3 b bt) (k0_pay4 b) (k0_pay5 b) (offNow i) (offNow_inb i) T W Z G N (fun d => hN _ _) hG
  unfold owns at hit
  unfold body owns
  iintro ⟨⟨%f1, %hf1, H1⟩, H2, H3, ⟨%f4, %hf4, H4⟩, ⟨%f5, %hf5, H5⟩, ⟨%v7, %f7, -, H7⟩, HP, H9, Hprev, HW⟩
  iapply (wp_load_rect Variants.none (c : Thread nD τ) none Set.univ (m := arg1) (r := Rect.unit (s := S1024x64) ![0, 0] S1024x64.size inb_S1024x64_S1024x64_0_0) (View.set_slice_subset _ _)) $$ H1
  iintro H1
  iapply (wp_load_rect Variants.none (c : Thread nD τ) none Set.univ (m := arg5) (r := Rect.unit (s := S1x101) ![0, 0] S1x101.size inb_S1x101_S1x101_0_0) (View.set_slice_subset _ _)) $$ H5
  iintro H5
  iapply (wp_load_rect Variants.none (c : Thread nD τ) none Set.univ (m := arg4) (r := Rect.unit (s := S26x100) ![0, 0] S26x100.size inb_S26x100_S26x100_0_0) (View.set_slice_subset _ _)) $$ H4
  iintro H4
  rw [read_whole arg1 f1 _ zeros2, read_whole arg5 f5 _ zeros2, read_whole arg4 f4 _ zeros2, hf1, hf4, hf5]
  simp only [Prog.bind]
  rw [wp_bind]
  iapply (wp_wand _ _ _) $$ [Hprev HW]
  · iapply (first_ok c i arg6 arg8 arg10 G N hN hN0) $$ [Hprev HW]
    isplitl [Hprev] <;> iassumption
  iintro %_ ⟨Hprev, ⟨HL, HS⟩, HW⟩
  rw [wp_bind]
  iapply (wp_wand _ _ _) $$ [H2 H3 HP HL HS H9]
  · iapply hit $$ [H2 H3 HP HL HS H9]
    isplitl [H2]; · iexact H2
    isplitl [H3]; · iexact H3
    isplitl [HP]; · iexact HP
    isplitl [HL]; · iexact HL
    isplitl [HS]; · iexact HS
    iexact H9
  iintro %_ ⟨⟨%f2, %hf2, H2⟩, H3, HF, ⟨%a, %ha, H9⟩⟩
  iapply (wp_load_rect Variants.none (c : Thread nD τ) none Set.univ (m := arg9) (r := Rect.unit (s := S3x1024x128) ![0, 0, 0] S1x1024x26.size inb_S3x1024x128_S1x1024x26_0_0_0) (View.set_slice_subset _ _)) $$ H9
  iintro H9
  iapply (wp_load_rect Variants.none (c : Thread nD τ) none Set.univ (m := arg9) (r := Rect.unit (s := S3x1024x128) ![1, 0, 0] S1x1024x26.size inb_S3x1024x128_S1x1024x26_1_0_0) (View.set_slice_subset _ _)) $$ H9
  iintro H9
  iapply (wp_load_rect Variants.none (c : Thread nD τ) none Set.univ (m := arg9) (r := Rect.unit (s := S3x1024x128) ![2, 0, 0] S1x1024x26.size inb_S3x1024x128_S1x1024x26_2_0_0) (View.set_slice_subset _ _)) $$ H9
  iintro H9
  iapply (wp_load_rect Variants.none (c : Thread nD τ) none Set.univ (m := arg2) (r := Rect.unit (s := S1024x26) ![0, 0] S1024x26.size inb_S1024x26_S1024x26_0_0) (View.set_slice_subset _ _)) $$ H2
  iintro H2
  iapply (wp_load_rect Variants.none (c : Thread nD τ) none Set.univ (m := arg7) (r := Rect.unit (s := S1x1x128) ![0, 0, 0] S1x1x128.size inb_S1x1x128_S1x1x128_0_0_0) (View.set_slice_subset _ _)) $$ H7
  iintro H7
  iapply (wp_store Variants.none (c : Thread nD τ) none Set.univ (m := arg7) (r := Rect.unit (s := S1x1x128) ![0, 0, 0] S1x1x128.size inb_S1x1x128_S1x1x128_0_0_0) (View.set_slice_subset _ _)) $$ H7
  iintro H7
  iapply (wp_wand _ _ _) $$ [HF HW]
  · iapply (last_ok c i arg6 arg8 arg10 G N hN hN0) $$ [HF HW]
    isplitl [HF] <;> iassumption
  iintro %_ ⟨Hnow, HW⟩
  isplitl [H1]
  · iexists f1
    isplitr; · ipureintro; exact hf1
    iexact H1
  isplitl [H2]
  · iexists f2
    isplitr; · ipureintro; exact hf2
    iexact H2
  isplitl [H3]; · iexact H3
  isplitl [H4]
  · iexists f4
    isplitr; · ipureintro; exact hf4
    iexact H4
  isplitl [H5]
  · iexists f5
    isplitr; · ipureintro; exact hf5
    iexact H5
  isplitl [H7]
  · iexists _
    isplitr; swap; · iexact H7
    ipureintro
    refine (read_whole arg7 _ ![0, 0, 0] zeros3 inb_S1x1x128_S1x1x128_0_0_0).symm.trans ((View.read_write_univ _ _).trans ?_)
    unfold lossBlk
    rw [read_whole arg2 f2 _ zeros2, hf2]
    have e0 := acc_read arg9 0 s (k0_pay3 b bt) (k0_pay4 b) (k0_pay5 b) T W a ha
    have e1 := acc_read arg9 1 s (k0_pay3 b bt) (k0_pay4 b) (k0_pay5 b) T W a ha
    have e2 := acc_read arg9 2 s (k0_pay3 b bt) (k0_pay4 b) (k0_pay5 b) T W a ha
    rw [← e0, ← e1, ← e2]
    rfl
  isplitl [H9]; · iexists a; iexact H9
  isplitl [Hprev]; · iexact Hprev
  isplitl [Hnow]; · iexact Hnow
  iexact HW

end Cert.KernelIdeal.Clean

end
-- ==== Proof.Ideal.Hbm.lean ====
/- The array of log densities, block by block and piece by piece, and the scratch buffer slot by slot. -/
module

public import proofs.«01_k».proof.Proof.Ideal.Tail

@[expose] public section

set_option synthInstance.maxSize 4096
set_option maxRecDepth 100000

noncomputable section

namespace Cert.KernelIdeal.Clean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The kernel's arrays as it is called with them. -/
abbrev hb : Memref sig .tc .hbm S16384x26x100 .f32 := Memref.whole main_v3_0
abbrev sc8 : Memref sig .tc .vmem S26x1024x100 .f32 := Memref.whole cc0_scratch0
abbrev sc9 : Memref sig .tc .vmem S3x1024x128 .f32 := Memref.whole cc0_scratch1

/-- The rows of block `k`. -/
def blk (k : Fin 16) : Finset S16384x26x100.Idx :=
  (Rect.unit (s := S16384x26x100) ![1024 * k.val, 0, 0] ![1024, 26, 100] (by revert k; decide)).set

theorem mem_blk (k : Fin 16) (x : S16384x26x100.Idx) : x ∈ blk k ↔ 1024 * k.val ≤ (x 0).val ∧ (x 0).val < 1024 * k.val + 1024 := by
  unfold blk
  rw [Rect.mem_set_unit]
  constructor
  · intro h; exact h 0
  · intro h a
    fin_cases a
    · exact h
    · exact ⟨Nat.zero_le _, by show (x 1).val < 0 + 26; have : (x 1).val < 26 := (x 1).isLt; omega⟩
    · exact ⟨Nat.zero_le _, by show (x 2).val < 0 + 100; have : (x 2).val < 100 := (x 2).isLt; omega⟩

/-- The elements of one piece of the result. -/
abbrev pieceSet (o : Fin 3 → ℕ) (h : ∀ a, o a + S1024x1x100.size a ≤ S16384x26x100.size a) : Finset S16384x26x100.Idx := (dstOf hb o h).view.set

theorem pieceSet_eq (o : Fin 3 → ℕ) (h : ∀ a, o a + S1024x1x100.size a ≤ S16384x26x100.size a) :
    pieceSet o h = (Rect.unit (s := S16384x26x100) o S1024x1x100.size h).set := by
  unfold pieceSet
  exact (View.set_reshape _ _).trans (View.set_slice_whole _ _)

theorem mem_piece (n : Fin 16) (d : Fin 26) (x : S16384x26x100.Idx) :
    x ∈ pieceSet (offAt n.val d) (offAt_inb n.isLt d) ↔ (1024 * n.val ≤ (x 0).val ∧ (x 0).val < 1024 * n.val + 1024) ∧ (x 1).val = d.val := by
  rw [pieceSet_eq, Rect.mem_set_unit]
  constructor
  · intro h
    have h1 : d.val ≤ (x 1).val ∧ (x 1).val < d.val + 1 := h 1
    exact ⟨h 0, by omega⟩
  · rintro ⟨h0, h1⟩ a
    fin_cases a
    · exact h0
    · show d.val ≤ (x 1).val ∧ (x 1).val < d.val + 1; omega
    · exact ⟨Nat.zero_le _, by show (x 2).val < 0 + 100; have : (x 2).val < 100 := (x 2).isLt; omega⟩

theorem blk_disjoint (k k' : Fin 16) (h : k ≠ k') : Disjoint (blk k) (blk k') := by
  rw [Finset.disjoint_left]
  intro x hx hx'
  rw [mem_blk] at hx hx'
  exact h (Fin.ext (by omega))

theorem blk_cover : Finset.univ.biUnion blk = Finset.univ := by
  refine Finset.eq_univ_of_forall fun x => Finset.mem_biUnion.mpr ?_
  have hx : (x 0).val < 16384 := (x 0).isLt
  exact ⟨⟨(x 0).val / 1024, by omega⟩, Finset.mem_univ _, (mem_blk _ _).mpr (by dsimp only; omega)⟩

theorem piece_disjoint (n : Fin 16) (d d' : Fin 26) (h : d ≠ d') :
    Disjoint (pieceSet (offAt n.val d) (offAt_inb n.isLt d)) (pieceSet (offAt n.val d') (offAt_inb n.isLt d')) := by
  rw [Finset.disjoint_left]
  intro x hx hx'
  rw [mem_piece] at hx hx'
  exact h (Fin.ext (hx.2.symm.trans hx'.2))

theorem piece_cover (n : Fin 16) : (Finset.univ.biUnion fun d => pieceSet (offAt n.val d) (offAt_inb n.isLt d)) = blk n := by
  ext x
  rw [Finset.mem_biUnion, mem_blk]
  constructor
  · rintro ⟨d, -, hd⟩; exact ((mem_piece n d x).mp hd).1
  · intro h; exact ⟨⟨(x 1).val, (x 1).isLt⟩, Finset.mem_univ _, (mem_piece n _ x).mpr ⟨h, rfl⟩⟩

section
variable (c : Dev nD) (Z G : Buf (Elt F) ((c : Thread nD τ).loc main_v3_0)) (N : ℕ)

/-- Block `k` of the result, at contents `f`. -/
abbrev blkPt (k : Fin 16) (f : Buf (Elt F) ((c : Thread nD τ).loc main_v3_0)) : sProp 𝕄 := ((c : Thread nD τ).loc main_v3_0) ↦[blk k]{fullShare} f

/-- A block is its twenty-six pieces. -/
theorem blk_pieces (n : Fin 16) : pieces c hb (offAt n.val) (offAt_inb n.isLt) G = blkPt c n G :=
  (Ring.pointsTo_sub_blocks (ℓ := (c : Thread nD τ).loc main_v3_0) (fun d => pieceSet (offAt n.val d) (offAt_inb n.isLt d))
    (piece_disjoint n) (blk n) (piece_cover n) G).symm

/-- The blocks other than `n` while block `n` is worked on: those before it at the final contents, those after it as found. -/
def others (n : Fin 16) : sProp 𝕄 := bigSep (Finset.univ.erase n) fun k => blkPt c k (if k.val < n.val then G else Z)
/-- The blocks other than `n` and `n'`. -/
def rest (n n' : Fin 16) : sProp 𝕄 := bigSep ((Finset.univ.erase n).erase n') fun k => blkPt c k (if k.val < n.val then G else Z)

theorem whole_split (f : Buf (Elt F) ((c : Thread nD τ).loc main_v3_0)) :
    ((((c : Thread nD τ).loc main_v3_0) ↦{fullShare} f : sProp 𝕄)) = bigSep Finset.univ fun k => blkPt c k f :=
  Ring.pointsTo_blocks (ℓ := (c : Thread nD τ).loc main_v3_0) blk blk_disjoint blk_cover f

/-- At the start: the first block, and the others as found. -/
theorem start_split : ((((c : Thread nD τ).loc main_v3_0) ↦{fullShare} Z : sProp 𝕄)) = iprop(blkPt c 0 Z ∗ others c Z G 0) := by
  rw [whole_split, bigSep_erase (Finset.mem_univ (0 : Fin 16))]
  refine congrArg (fun P => iprop(blkPt c 0 Z ∗ P)) ?_
  unfold others
  exact bigSep_congr fun k _ => by rw [if_neg (show ¬ k.val < (0 : Fin 16).val from Nat.not_lt_zero _)]

/-- At the end: the last block, and the others at the final contents. -/
theorem end_join : iprop(blkPt c 15 G ∗ others c Z G 15) = ((((c : Thread nD τ).loc main_v3_0) ↦{fullShare} G : sProp 𝕄)) := by
  rw [whole_split, bigSep_erase (Finset.mem_univ (15 : Fin 16))]
  refine congrArg (fun P => iprop(blkPt c 15 G ∗ P)) ?_
  unfold others
  refine bigSep_congr fun k hk => ?_
  have hne : k.val ≠ 15 := fun e => Finset.ne_of_mem_erase hk (Fin.ext e)
  have hlt := k.isLt
  rw [if_pos (show k.val < (15 : Fin 16).val by show k.val < 15; omega)]

/-- The next block taken out of the others. -/
theorem next_split (n n' : Fin 16) (h : n'.val = n.val + 1) : others c Z G n = iprop(blkPt c n' Z ∗ rest c Z G n n') := by
  unfold others rest
  rw [bigSep_erase (i := n') (Finset.mem_erase.mpr ⟨fun e => by rw [e] at h; omega, Finset.mem_univ _⟩), if_neg (by omega)]
  rfl

/-- The block worked on before put back. -/
theorem prev_join (n n' : Fin 16) (h : n'.val = n.val + 1) : iprop(blkPt c n G ∗ rest c Z G n n') = others c Z G n' := by
  unfold others rest
  rw [bigSep_erase (i := n) (s := Finset.univ.erase n') (Finset.mem_erase.mpr ⟨fun e => by rw [e] at h; omega, Finset.mem_univ _⟩),
    if_pos (by omega), Finset.erase_right_comm]
  refine congrArg (fun P => iprop(blkPt c n G ∗ P)) (bigSep_congr fun k hk => ?_)
  have hne : k.val ≠ n.val := fun e => Finset.ne_of_mem_erase hk (Fin.ext e)
  by_cases hk : k.val < n.val
  · rw [if_pos hk, if_pos (by omega)]
  · rw [if_neg hk, if_neg (by omega)]

/-- The elements of one slot of the scratch buffer. -/
abbrev slotSet (d : Fin 26) : Finset S26x1024x100.Idx := (slotOf sc8 d).view.set

theorem mem_slot (d : Fin 26) (x : S26x1024x100.Idx) : x ∈ slotSet d ↔ (x 0).val = d.val := by
  rw [show slotSet d = (Rect.unit (s := S26x1024x100) ![d.val, 0, 0] S1x1024x100.size (inb_slot d)).set from
    (View.set_reshape _ _).trans (View.set_slice_whole _ _), Rect.mem_set_unit]
  constructor
  · intro h
    have h0 : d.val ≤ (x 0).val ∧ (x 0).val < d.val + 1 := h 0
    omega
  · intro h a
    fin_cases a
    · show d.val ≤ (x 0).val ∧ (x 0).val < d.val + 1; omega
    · exact ⟨Nat.zero_le _, by show (x 1).val < 0 + 1024; have : (x 1).val < 1024 := (x 1).isLt; omega⟩
    · exact ⟨Nat.zero_le _, by show (x 2).val < 0 + 100; have : (x 2).val < 100 := (x 2).isLt; omega⟩

theorem slot_disjoint (d d' : Fin 26) (h : d ≠ d') : Disjoint (slotSet d) (slotSet d') := by
  rw [Finset.disjoint_left]
  intro x hx hx'
  rw [mem_slot] at hx hx'
  exact h (Fin.ext (hx.symm.trans hx'))

theorem slot_cover : Finset.univ.biUnion slotSet = Finset.univ :=
  Finset.eq_univ_of_forall fun x => Finset.mem_biUnion.mpr ⟨⟨(x 0).val, (x 0).isLt⟩, Finset.mem_univ _, (mem_slot _ _).mpr rfl⟩

/-- The scratch buffer at some contents is its slots at some contents, both ways. -/
theorem slots_split : (iprop(∃ f : Buf (Elt F) ((c : Thread nD τ).loc cc0_scratch0), ((c : Thread nD τ).loc cc0_scratch0) ↦{fullShare} f) : sProp 𝕄) ⊢ slots (F := F) c sc8 := by
  iintro ⟨%f, H⟩
  ihave H' := (Entails.of_eq (Ring.pointsTo_blocks (ℓ := (c : Thread nD τ).loc cc0_scratch0) slotSet slot_disjoint slot_cover f)) $$ H
  have hm : (bigSep Finset.univ fun d => (((c : Thread nD τ).loc cc0_scratch0) ↦[slotSet d]{fullShare} f : sProp 𝕄)) ⊢ slots (F := F) c sc8 :=
    bigSep_mono fun d _ => sProp.exists_intro f
  iapply hm $$ H'
theorem slots_join [Nonempty (Buf (Elt F) ((c : Thread nD τ).loc cc0_scratch0))] :
    slots (F := F) c sc8 ⊢ (iprop(∃ f : Buf (Elt F) ((c : Thread nD τ).loc cc0_scratch0), ((c : Thread nD τ).loc cc0_scratch0) ↦{fullShare} f) : sProp 𝕄) :=
  Ring.pointsTo_blocks_join_exists (ℓ := (c : Thread nD τ).loc cc0_scratch0) slotSet slot_disjoint slot_cover (Classical.arbitrary _)
end

end Cert.KernelIdeal.Clean

end
-- ==== Proof.Ideal.Data.lean ====
/- What the kernel leaves, point by point, and the invariant between points. -/
module

public import proofs.«01_k».proof.Proof.Ideal.Hbm

@[expose] public section

set_option synthInstance.maxSize 4096
set_option maxRecDepth 100000

noncomputable section

namespace Cert.KernelIdeal.Clean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (c : Dev nD)

/-- The windows' blocks at point `t`: the rows, the targets, the weights, the biases, the bins. -/
abbrev sB (t : Fin cfg0.N) : Vec F S1024x64 .f32 := iblk m c 0 t
abbrev tB (t : Fin cfg0.N) : Vec F S1024x26 .f32 := iblk m c 1 t
abbrev wB (t : Fin cfg0.N) : Vec F S26x64x100 .f32 := iblk m c 2 t
abbrev btB (t : Fin cfg0.N) : Vec F S26x100 .f32 := iblk m c 3 t
abbrev bB (t : Fin cfg0.N) : Vec F S1x101 .f32 := iblk m c 4 t

/-- The log densities of point `t`'s rows in column `d`. -/
def Lat (t : Fin cfg0.N) (d : Fin 26) : FVec F S1024x100 .f32 :=
  logp (U d (sB m c t) (k0_pay3 (bB m c t) (btB m c t)) (wsl d (wB m c t)))

/-- The point an element of the result belongs to, and its place in the point's piece. -/
def rowPt (x : S16384x26x100.Idx) : Fin cfg0.N :=
  ⟨(x 0).val / 1024, by have h : (x 0).val < 16384 := (x 0).isLt; show (x 0).val / 1024 < grid0.N; rw [N_0]; omega⟩
def inPiece (x : S16384x26x100.Idx) : S1024x1x100.Idx := fun a => match a with
  | ⟨0, _⟩ => ⟨(x 0).val % 1024, Nat.mod_lt _ (by decide)⟩ | ⟨1, _⟩ => ⟨0, Nat.one_pos⟩ | ⟨2, _⟩ => ⟨(x 2).val, (x 2).isLt⟩

/-- What the kernel leaves in the array of log densities. -/
def Gres : Buf (Elt F) ((c : Thread nD τ).loc main_v3_0) := fun x : S16384x26x100.Idx =>
  shapeCast S1024x1x100 (Lat m c (rowPt x) (x 1)) (by decide : S1024x100.ShapeCasts S1024x1x100) (inPiece x)

theorem coords_val : ∀ t : Fin grid0.N, (grid0.coords t 0).val = t.val := by decide

/-- The offsets of a point's copies, by the point's number. -/
theorem offNow_at (t : Fin cfg0.N) (d : Fin 26) : offNow (grid0.coords t) d = offAt t.val d := by
  rw [offNow_eq, coords_val]

/-- A piece of the result, read, is the column's log densities. -/
theorem Gres_read (t : Fin cfg0.N) (d : Fin 26) (o : Fin 3 → ℕ) (ho : o = offAt t.val d) (h : ∀ a, o a + S1024x1x100.size a ≤ S16384x26x100.size a) :
    (dstOf hb o h).view.read (Elt F) (Gres m c) = Lat m c t d := by
  subst ho
  have key : hb.view.readAt (Elt F) (Rect.unit (s := S16384x26x100) (offAt t.val d) S1024x1x100.size h).toLoadRect (Gres m c)
      = shapeCast S1024x1x100 (Lat m c t d) (by decide : S1024x100.ShapeCasts S1024x1x100) := by
    funext z
    have hz0 : (z 0).val < 1024 := (z 0).isLt
    have hz1 : (z 1).val < 1 := (z 1).isLt
    show Gres m c ((Rect.unit (s := S16384x26x100) (offAt t.val d) S1024x1x100.size h).emb z) = _
    generalize hx : (Rect.unit (s := S16384x26x100) (offAt t.val d) S1024x1x100.size h).emb z = x
    have h0 : (x 0).val = 1024 * t.val + 1 * (z 0).val := by rw [← hx]; rfl
    have h1 : (x 1).val = d.val + 1 * (z 1).val := by rw [← hx]; rfl
    have h2 : (x 2).val = 0 + 1 * (z 2).val := by rw [← hx]; rfl
    have e0 : rowPt x = t := Fin.ext (by show (x 0).val / 1024 = t.val; omega)
    have e1 : x 1 = d := Fin.ext (by omega)
    have e2 : inPiece x = z := by
      funext a
      apply Fin.ext
      fin_cases a
      · show (x 0).val % 1024 = (z 0).val; omega
      · show 0 = (z 1).val; omega
      · show (x 2).val = (z 2).val; omega
    unfold Gres
    rw [e0, e1, e2]
  refine (Memref.read_squeeze_slice hb _ (fun _ => rfl) squeezes_S1024x1x100_S1024x100 (by decide : S1024x1x100.ShapeCasts S1024x100) _).trans ?_
  rw [key]
  exact shapeCast_shapeCast _ _ _

/-- The credit of one copy. -/
def credit : ℕ := (dstOf hb (offAt 0 0) (offAt_inb (by decide) 0)).view.dmaCredit
theorem credit_eq (o : Fin 3 → ℕ) (h : ∀ a, o a + S1024x1x100.size a ≤ S16384x26x100.size a) : (dstOf hb o h).view.dmaCredit = credit := rfl
theorem credit_pos : 0 < credit := View.dmaCredit_pos _ (by decide)

/-- The result as the kernel finds it. -/
abbrev Zres : Buf (Elt F) ((c : Thread nD τ).loc main_v3_0) := V m c main_v3_0

/-- The scratch buffer and the accumulator at some contents, the semaphore at zero, the result whole at `f`. -/
def quiet (f : Buf (Elt F) ((c : Thread nD τ).loc main_v3_0)) : sProp 𝕄 :=
  iprop(accAny (F := F) c sc9 ∗ idle (F := F) c sc8 cc0_scratch2 ∗ ((c : Thread nD τ).loc main_v3_0) ↦{fullShare} f)

/-- The invariant between points `n - 1` and `n`. -/
def Phi (n : ℕ) : sProp 𝕄 :=
  if n = 0 then quiet c (Zres m c)
  else if h : n - 1 < 15 then
    iprop(accAny (F := F) c sc9
      ∗ flying c hb sc8 cc0_scratch2 (offAt (n - 1)) (offAt_inb (lt_trans h (by decide))) (Gres m c) credit
      ∗ others c (Zres m c) (Gres m c) ⟨n - 1, lt_trans h (by decide)⟩)
  else quiet c (Gres m c)

theorem pieces_congr {o o' : Fin 26 → Fin 3 → ℕ} (e : o = o') (h h') (G : hb.view.ty.Contents (Elt F)) :
    pieces c hb o h G = pieces c hb o' h' G := by subst e; rfl
theorem flying_congr {o o' : Fin 26 → Fin 3 → ℕ} (e : o = o') (h h') (G : hb.view.ty.Contents (Elt F)) (N : ℕ) :
    flying c hb sc8 cc0_scratch2 o h G N = flying c hb sc8 cc0_scratch2 o' h' G N := by subst e; rfl

/-- What point `t` leaves untouched of the result. -/
def still (t : Fin 16) : sProp 𝕄 :=
  if h : t.val = 0 then others c (Zres m c) (Gres m c) t
  else rest c (Zres m c) (Gres m c) ⟨t.val - 1, lt_of_le_of_lt (Nat.sub_le _ _) t.isLt⟩ t

section
variable (t : Fin 16) (i : grid0.Coords) (hi : (i 0).val = t.val)
include hi

theorem now_pieces (f : Buf (Elt F) ((c : Thread nD τ).loc main_v3_0)) : pieces c hb (offNow i) (offNow_inb i) f = blkPt c t f :=
  (pieces_congr c (by funext d; rw [offNow_eq, hi]) _ (offAt_inb t.isLt) f).trans (blk_pieces c f t)

theorem prev_pieces (h1 : k0_cond1 i = 1#1) (f : Buf (Elt F) ((c : Thread nD τ).loc main_v3_0)) :
    pieces c hb (offPrev i) (offPrev_inb i h1) f = blkPt c ⟨t.val - 1, lt_of_le_of_lt (Nat.sub_le _ _) t.isLt⟩ f :=
  (pieces_congr c (by funext d; rw [offPrev_eq i h1, hi]) _ (offAt_inb (lt_of_le_of_lt (Nat.sub_le _ _) t.isLt)) f).trans
    (blk_pieces c f ⟨t.val - 1, lt_of_le_of_lt (Nat.sub_le _ _) t.isLt⟩)

/-- What a point finds. -/
theorem phi_open : Phi m c t.val
    ⊢ iprop(accAny (F := F) c sc9 ∗ pieces c hb (offNow i) (offNow_inb i) (Zres m c)
        ∗ prevIn c i hb sc8 cc0_scratch2 (Gres m c) credit ∗ still m c t) := by
  rw [now_pieces c t i hi]
  unfold Phi prevIn still
  by_cases h0 : t.val = 0
  · have h1 : ¬ k0_cond1 i = 1#1 := fun e => (cond1_iff i).mp e (hi.trans h0)
    have ht : t = 0 := Fin.ext h0
    rw [if_pos h0, dif_neg h1, dif_pos h0]
    unfold quiet
    rw [start_split c _ (Gres m c), ht]
    iintro ⟨H9, HI, HB, HO⟩
    isplitl [H9]; · iexact H9
    isplitl [HB]; · iexact HB
    isplitl [HI] <;> iassumption
  · have h1 : k0_cond1 i = 1#1 := (cond1_iff i).mpr (by rw [hi]; exact h0)
    have hlt : t.val - 1 < 15 := by have := t.isLt; omega
    rw [if_neg h0, dif_pos hlt, dif_pos h1, dif_neg h0,
      next_split c _ _ ⟨t.val - 1, lt_trans hlt (by decide)⟩ t (by show t.val = t.val - 1 + 1; omega),
      flying_congr c (o := offPrev i) (o' := offAt (t.val - 1)) (by funext d; rw [offPrev_eq i h1, hi]) _ (offAt_inb (lt_trans hlt (by decide)))]
    iintro ⟨H9, HF, HB, HO⟩
    isplitl [H9]; · iexact H9
    isplitl [HB]; · iexact HB
    isplitl [HF] <;> iassumption

/-- What a point leaves. -/
theorem phi_close :
    iprop(accAny (F := F) c sc9 ∗ prevOut c i hb (Gres m c) ∗ nowOut c i hb sc8 cc0_scratch2 (Gres m c) credit ∗ still m c t)
      ⊢ Phi m c (t.val + 1) := by
  have hprev : iprop(prevOut c i hb (Gres m c) ∗ still m c t) ⊢ others c (Zres m c) (Gres m c) t := by
    unfold prevOut still
    by_cases h0 : t.val = 0
    · have h1 : ¬ k0_cond1 i = 1#1 := fun e => (cond1_iff i).mp e (hi.trans h0)
      rw [dif_neg h1, dif_pos h0]
      iintro ⟨-, H⟩; iexact H
    · have h1 : k0_cond1 i = 1#1 := (cond1_iff i).mpr (by rw [hi]; exact h0)
      rw [dif_pos h1, dif_neg h0, prev_pieces c t i hi h1,
        prev_join c _ _ ⟨t.val - 1, lt_of_le_of_lt (Nat.sub_le _ _) t.isLt⟩ t (by show t.val = t.val - 1 + 1; omega)]
  have hsum : iprop(accAny (F := F) c sc9 ∗ nowOut c i hb sc8 cc0_scratch2 (Gres m c) credit ∗ others c (Zres m c) (Gres m c) t)
      ⊢ Phi m c (t.val + 1) := by
    unfold Phi nowOut
    rw [if_neg (Nat.succ_ne_zero _)]
    by_cases h2 : k0_cond2 i = 1#1
    · have h15 : t = 15 := Fin.ext (hi.symm.trans ((cond2_iff i).mp h2))
      rw [if_pos h2, dif_neg (by rw [h15]; decide), now_pieces c t i hi, h15]
      unfold quiet
      rw [← end_join c (Zres m c) (Gres m c)]
      iintro ⟨H9, ⟨HB, HI⟩, HO⟩
      isplitl [H9]; · iexact H9
      isplitl [HI]; · iexact HI
      isplitl [HB] <;> iassumption
    · have hlt : t.val < 15 := by
        have h15 : t.val ≠ 15 := fun e => h2 ((cond2_iff i).mpr (hi.trans e))
        have := t.isLt; omega
      rw [if_neg h2, dif_pos (show t.val + 1 - 1 < 15 from hlt),
        flying_congr c (o := offNow i) (o' := offAt (t.val + 1 - 1)) (by funext d; rw [offNow_eq, hi]; rfl) _ (offAt_inb (lt_trans hlt (by decide)))]
      exact .rfl
  iintro ⟨H9, HP, HN, HS⟩
  ihave HO := hprev $$ [HP HS]
  · isplitl [HP] <;> iassumption
  iapply hsum
  isplitl [H9]; · iexact H9
  isplitl [HN] <;> iassumption
end

end Cert.KernelIdeal.Clean

end
-- ==== Proof.Ideal.BodyEq.lean ====
/- The printed kernel body is the loop written out: the same operations in the same order. -/
module

public import proofs.«01_k».proof.Proof.Ideal.Clean
public import Idealize.ShloMosaic.Lib.Tactic.ProgEq

@[expose] public section

set_option synthInstance.maxSize 4096

noncomputable section

namespace Cert.KernelIdeal.Clean

open Idealize.ShloMosaic Idealize.SL.Sem Cert.KernelIdeal.Gen

variable {F : FTy → Type} [FloatOps F] [Named F]

set_option maxRecDepth 1000000 in
set_option maxHeartbeats 40000000 in
/-- The printed kernel body is the loop, whichever of its two conditionals are taken. -/
theorem body_eq (i : grid0.Coords) (arg1 : Memref sig .tc .vmem S1024x64 .f32) (harg1 : arg1.IsWhole)
    (arg2 : Memref sig .tc .vmem S1024x26 .f32) (harg2 : arg2.IsWhole) (arg3 : Memref sig .tc .vmem S26x64x100 .f32) (harg3 : arg3.IsWhole) (arg4 : Memref sig .tc .vmem S26x100 .f32) (harg4 : arg4.IsWhole) (arg5 : Memref sig .tc .vmem S1x101 .f32) (harg5 : arg5.IsWhole) (arg6 : Memref sig .tc .hbm S16384x26x100 .f32) (harg6 : arg6.IsWhole) (arg7 : Memref sig .tc .vmem S1x1x128 .f32) (harg7 : arg7.IsWhole) (arg8 : Memref sig .tc .vmem S26x1024x100 .f32) (harg8 : arg8.IsWhole) (arg9 : Memref sig .tc .vmem S3x1024x128 .f32) (harg9 : arg9.IsWhole) (arg10 : DmaSems sig S_) :
    cc0__fused_kernel (F := F) i arg1 harg1 arg2 harg2 arg3 harg3 arg4 harg4 arg5 harg5 arg6 harg6 arg7 harg7 arg8 harg8 arg9 harg9 arg10
      = body i arg1 arg2 arg3 arg4 arg5 arg6 arg7 arg8 arg9 arg10 := by
  by_cases h1 : k0_cond1 i = 1#1 <;> by_cases h2 : k0_cond2 i = 1#1
  all_goals
    unfold cc0__fused_kernel body firstWaits lastWaits k0_part54 k0_part12
    simp only [h1, h2, dif_pos, dif_neg, not_false_eq_true, ↓reduceDIte]
    repeat refine ProgEq.op_congr _ _ _ _ _ _ _ (by rfl) (fun _ => ?_)
    rfl

end Cert.KernelIdeal.Clean

end
-- ==== Proof.Ideal.Run.lean ====
/- The kernel's run: the pipeline's proof data, the body's obligation, and what the run leaves. -/
module

public import proofs.«01_k».proof.Proof.Ideal.Data
public import proofs.«01_k».proof.Proof.Ideal.Tail
public import proofs.«01_k».proof.Proof.Ideal.BodyEq
public import Idealize.ShloMosaic.Lib.Pipeline.FrameSuffixV

@[expose] public section

set_option synthInstance.maxSize 4096
set_option maxRecDepth 100000

noncomputable section

namespace Cert.KernelIdeal.Clean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The body's own semaphore. -/
abbrev osem0 : Fin 1 → SemLoc sig := fun _ => .dma 9
theorem ownSemFacts0 : Pipeline.OwnSemFacts spec0 osem0 := by decide
/-- The result the body writes by its own copies. -/
def R0 : Finset (Ref sig .tc) := {main_v3_0}
theorem R0_sub : R0 ⊆ Pipeline.restRefs sig spec0 \ ∅ := by decide

/-- The proof data: the arrays as the region finds them, each input left as found and the loss block as computed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => lossBlk (sB m c t) (tB m c t) (wB m c t) (btB m c t) (bB m c t)
  Φ n := Phi m c n.val
  q _ := fullShare
  owed _ := 0

theorem A_eq (c : Dev nD) (w : Fin cfg0.W) : (dats m 0 c).A w = V m c (Pipeline.arrRef spec0 w) := by
  dsimp only [dats]

/-- Each input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl

def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop(Phi m c (t.val + 1) ∗ (dats m 0 c).owesAt () t.succ
    ∗ owns (c : Thread nD τ) (st0_0 t) fullShare (sB m c t)
    ∗ owns (c : Thread nD τ) (st0_1 t) fullShare (tB m c t)
    ∗ owns (c : Thread nD τ) (st0_2 t) fullShare (wB m c t)
    ∗ owns (c : Thread nD τ) (st0_3 t) fullShare (btB m c t)
    ∗ owns (c : Thread nD τ) (st0_4 t) fullShare (bB m c t)
    ∗ owns (c : Thread nD τ) (st0_5 t) fullShare (lossBlk (sB m c t) (tB m c t) (wB m c t) (btB m c t) (bB m c t)))

/-- The body at point `t`, as the loop. -/
theorem body_at (t : Fin cfg0.N) : (bodyAt0 (F := F) t : Prog (TpuEff nD τ sig (Elt F) Λ₀ .tc) PUnit)
    = body (grid0.coords t) (st0_0 t) (st0_1 t) (st0_2 t) (st0_3 t) (st0_4 t) hb (st0_5 t) sc8 sc9 cc0_scratch2 := body_eq ..

/-- The body takes a point's start to its end. -/
theorem sound_body (c : Dev nD) (t : Fin cfg0.N) :
    bodyPre m c t ⊢ wp frame (wpE (defs₀ (F := F)) Variants.none c none) Set.univ (bodyAt0 t) (fun _ => bodyPost m c t) := by
  rw [body_at]
  have hN : grid0.N = 16 := N_0
  have hopen : Phi m c t.val ⊢ _ := phi_open m c (t.cast hN) (grid0.coords t) (coords_val t)
  have hclose : _ ⊢ Phi m c (t.val + 1) := phi_close m c (t.cast hN) (grid0.coords t) (coords_val t)
  have hpt := point_ok c (grid0.coords t) (st0_0 t) (st0_1 t) (st0_2 t) (st0_3 t) (st0_4 t) hb (st0_5 t) sc8 sc9 cc0_scratch2
    (sB m c t) (tB m c t) (wB m c t) (btB m c t) (bB m c t) (Zres m c) (Gres m c) credit credit_eq credit_pos
    (fun d => Gres_read m c t d _ (offNow_at t d) _)
  have hpre : bodyPre m c t ⊢ iprop((owns (c : Thread nD τ) (st0_0 t) fullShare (sB m c t) ∗ owns (c : Thread nD τ) (st0_1 t) fullShare (tB m c t) ∗ owns (c : Thread nD τ) (st0_2 t) fullShare (wB m c t)
        ∗ owns (c : Thread nD τ) (st0_3 t) fullShare (btB m c t) ∗ owns (c : Thread nD τ) (st0_4 t) fullShare (bB m c t)
        ∗ (∃ v, owns (c : Thread nD τ) (st0_5 t) fullShare v)
        ∗ pieces c hb (offNow (grid0.coords t)) (offNow_inb (grid0.coords t)) (Zres m c) ∗ accAny (F := F) c sc9
        ∗ prevIn c (grid0.coords t) hb sc8 cc0_scratch2 (Gres m c) credit ∗ owesAny (F := F) c) ∗ still m c (t.cast hN)) := by
    unfold bodyPre Dat.owesAt Pipeline.owesWithin
    rw [show (dats m 0 c).owed t.castSucc = 0 from rfl]
    simp only [before_0, before_1, before_2, before_3, before_4]
    iintro ⟨HP, ⟨%Ws, -, HW⟩, ⟨%d0, H0⟩, ⟨%d1, H1⟩, ⟨%d2, H2⟩, ⟨%d3, H3⟩, ⟨%d4, H4⟩, ⟨%d5, H5⟩⟩
    ihave HP' := hopen $$ HP
    icases HP' with ⟨H9, Hp, Hi, Hs⟩
    isplitr [Hs]
    · isplitl [H0]; · iexact H0
      isplitl [H1]; · iexact H1
      isplitl [H2]; · iexact H2
      isplitl [H3]; · iexact H3
      isplitl [H4]; · iexact H4
      isplitl [H5]; · iexists _; iexact H5
      isplitl [Hp]; · iexact Hp
      isplitl [H9]; · iexact H9
      isplitl [Hi]; · iexact Hi
      iexists Ws; iexact HW
    · iexact Hs
  refine hpre.trans ((sep_mono hpt .rfl).trans ?_)
  refine (wp_frame_r _ _ _).trans (wp_mono _ _ _ fun _ => ?_)
  unfold bodyPost Dat.owesAt Pipeline.owesWithin
  rw [show (dats m 0 c).owed t.succ = 0 from rfl]
  iintro ⟨⟨H0, H1, H2, H3, H4, H5, H9, Hp, Hi, ⟨%Ws, HW⟩⟩, Hs⟩
  isplitl [H9 Hp Hi Hs]
  · iapply hclose
    isplitl [H9]; · iexact H9
    isplitl [Hp]; · iexact Hp
    isplitl [Hi] <;> iassumption
  isplitl [HW]
  · iexists Ws; isplitr; · ipureintro; exact fun _ _ => Or.inl trivial
    iexact HW
  isplitl [H0]; · iexact H0
  isplitl [H1]; · iexact H1
  isplitl [H2]; · iexact H2
  isplitl [H3]; · iexact H3
  isplitl [H4] <;> iassumption

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Clean

end
-- ==== Proof.Ideal.Launch.lean ====
/- The whole run: the loss array, the host lines after the kernel, the launch, and the frame. -/
module

public import proofs.«01_k».proof.Proof.Ideal.Run
public import Idealize.ShloMosaic.Lib.Pipeline.Value
public import Idealize.ShloMosaic.Lib.Claim

@[expose] public section

set_option synthInstance.maxSize 4096
set_option maxRecDepth 100000

noncomputable section

namespace Cert.KernelIdeal.Clean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The loss array -/

/-- The loss array the kernel leaves: row `t` is point `t`'s loss block. -/
def Lres (c : Dev nD) : Buf (Elt F) ((c : Thread nD τ).loc main_v3_1) := fun x : S16x1x128.Idx =>
  let t : Fin cfg0.N := ⟨(x 0).val, by have h : (x 0).val < 16 := (x 0).isLt; show (x 0).val < grid0.N; rw [N_0]; exact h⟩
  lossBlk (sB m c t) (tB m c t) (wB m c t) (btB m c t) (bB m c t) (fun a => match a with
    | ⟨0, _⟩ => ⟨0, Nat.one_pos⟩ | ⟨1, _⟩ => ⟨0, Nat.one_pos⟩ | ⟨2, _⟩ => ⟨(x 2).val, (x 2).isLt⟩)

theorem index5 : ∀ t : Fin grid0.N, win0_5.index t 0 = t.val ∧ win0_5.index t 1 = 0 ∧ win0_5.index t 2 = 0 := by decide +kernel

/-- Point `t` writes back its row of the loss array. -/
theorem flushed5 (c : Dev nD) (t : Fin cfg0.N) : (dats m 0 c).flushed 5 t = ((cfg0.win 5).blk t).view.read (Elt F) (Lres m c) := by
  obtain ⟨i0, i1, i2⟩ := index5 t
  funext y
  have y0 : (y 0).val < 1 := (y 0).isLt
  have y1 : (y 1).val < 1 := (y 1).isLt
  show lossBlk (sB m c t) (tB m c t) (wB m c t) (btB m c t) (bB m c t) y = Lres m c ((win0_5.rect t).emb y)
  generalize hx : (win0_5.rect t).emb y = x
  have h0 : (x 0).val = win0_5.index t 0 * 1 + 1 * (y 0).val := by rw [← hx]; rfl
  have h2 : (x 2).val = win0_5.index t 2 * 128 + 1 * (y 2).val := by rw [← hx]; rfl
  rw [i0] at h0; rw [i2] at h2
  have et : (⟨(x 0).val, by have h : (x 0).val < 16 := (x 0).isLt; show (x 0).val < grid0.N; rw [N_0]; exact h⟩ : Fin cfg0.N) = t := Fin.ext (by show (x 0).val = t.val; omega)
  unfold Lres
  dsimp only
  rw [et]
  congr 1
  funext a
  apply Fin.ext
  fin_cases a
  · show (y 0).val = 0; omega
  · show (y 1).val = 0; omega
  · show (y 2).val = (x 2).val; omega

/-- Every element of the loss array is in some point's row. -/
theorem cover5 (x : S16x1x128.Idx) : ∃ t : Fin cfg0.N, (cfg0.win 5).flush t = true ∧ x ∈ ((cfg0.win 5).blk t).view.set := by
  have h0 : (x 0).val < 16 := (x 0).isLt
  have h1 : (x 1).val < 1 := (x 1).isLt
  have h2 : (x 2).val < 128 := (x 2).isLt
  let t : Fin cfg0.N := ⟨(x 0).val, by show (x 0).val < grid0.N; rw [N_0]; exact h0⟩
  obtain ⟨i0, i1, i2⟩ := index5 t
  refine ⟨t, flush0_5 t, ?_⟩
  show x ∈ ((View.whole main_v3_1).slice (win0_5.rect t)).set
  rw [View.set_slice_whole, Rect.mem_set_unit]
  intro a
  match a with
  | ⟨0, _⟩ => show win0_5.index t 0 * 1 ≤ (x 0).val ∧ (x 0).val < win0_5.index t 0 * 1 + 1
              rw [i0]; show (x 0).val * 1 ≤ (x 0).val ∧ (x 0).val < (x 0).val * 1 + 1; omega
  | ⟨1, _⟩ => show win0_5.index t 1 * 1 ≤ (x 1).val ∧ (x 1).val < win0_5.index t 1 * 1 + 1
              rw [i1]; omega
  | ⟨2, _⟩ => show win0_5.index t 2 * 128 ≤ (x 2).val ∧ (x 2).val < win0_5.index t 2 * 128 + 128
              rw [i2]; omega

theorem loss_array (c : Dev nD) : (dats m 0 c).arrAt 5 cfg0.N = Lres m c :=
  (dats m 0 c).arrAt_eq_of_cover 5 (Lres m c) (fun t _ => flushed5 m c t) cover5

/-- The loss: the first lane of the points' loss blocks, added up. -/
def lossRes (c : Dev nD) : Buf (Elt F) ((c : Thread nD τ).loc main_v6) :=
  Host.reduceAdd (shapeCast S16 (extractStridedSlice S16x1x1 ![0, 0, 0] (Lres m c : Vec F S16x1x128 .f32) slices_S16x1x128_S16x1x1_0_0_0) shapeCasts_S16x1x1_S16)
    (constant S_ .f32 0x00000000#32) reducesTo_S16_S_d0 h_S_

/-! ## The launch -/

/-- What the body's copies leave, as contents of every buffer. -/
def Gfin (c : Dev nD) (b : Ref sig .tc) : Buf (Elt F) ((c : Thread nD τ).loc b) :=
  if h : b = main_v3_0 then h ▸ Gres m c else V m c b

set_option maxHeartbeats 800000 in
/-- The program around the region: the lines before, the region, the lines after. -/
theorem hmain' : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- Between kernel and host lines nothing is in flight: the launch's own form of `quiet`. -/
theorem quiet_eq (c : Dev nD) (f : Buf (Elt F) ((c : Thread nD τ).loc main_v3_0)) (G : (c : Dev nD) → (b : Ref sig .tc) → Buf (Elt F) ((c : Thread nD τ).loc b))
    (hG : G c main_v3_0 = f) :
    (Pipeline.ΦDRV osem0 spec0 ∅ R0 (V m) G c ⊢ quiet c f) ∧ (quiet c f ⊢ Pipeline.ΦDRV osem0 spec0 ∅ R0 (V m) G c) := by
  have hs : sc9.view.set = Finset.univ := View.set_whole _
  have hR : (bigSep R0 fun b => (((c : Thread nD τ).loc b) ↦{fullShare} G c b : sProp 𝕄)) = (((c : Thread nD τ).loc main_v3_0) ↦{fullShare} f) := by
    rw [BI.bigSep_eq_bigSepL_of_eq [main_v3_0] (by decide) (by decide), ← hG]; rfl
  have hE : (bigSep (∅ : Finset (Ref sig .tc)) fun b => (((c : Thread nD τ).loc b) ↦{fullShare} V m c b : sProp 𝕄)) = iprop(emp) := by
    rw [BI.bigSep_eq_bigSepL_of_eq [] (by decide) (by decide)]; rfl
  have hS : (Pipeline.ownSems0 (Ix := Unit) (Name := ℕ) (U := Pipeline.UD sig nD τ) (Lvl := ℕ) (Val := Elt F) (τ := τ) osem0 c : sProp 𝕄)
      = semVal ((c : Thread nD τ), SemLoc.dma cc0_scratch2.sem) 0 := by
    rw [Pipeline.ownSems0_eq_of_list c osem0 [0] (by decide) (by decide)]; rfl
  unfold Pipeline.ΦDRV quiet
  rw [scopedRest0_eq, hS, hR, hE]
  unfold accAny
  rw [hs]
  haveI : Nonempty (Buf (Elt F) ((c : Thread nD τ).loc cc0_scratch0)) := inferInstance
  constructor
  · iintro ⟨⟨H8, H9⟩, Hs, -, HB⟩
    isplitl [H9]; · iexact H9
    isplitr [HB]
    · isplitl [H8]; · iapply (slots_split c) $$ H8
      iexact Hs
    · iexact HB
  · iintro ⟨H9, ⟨H8, Hs⟩, HB⟩
    isplitl [H8 H9]
    · isplitl [H8]; · iapply (slots_join c) $$ H8
      iexact H9
    isplitl [Hs]; · iexact Hs
    isplitr [HB]
    · iempintro
    · iexact HB

theorem Gfin_res (c : Dev nD) : Gfin m c main_v3_0 = Gres m c := dif_pos rfl

/-- The arrays and the bypassing buffers after the region. -/
abbrev Vfin (c : Dev nD) : Valuation τ sig (Elt F) :=
  Pipeline.withArrays spec0 c (Pipeline.withR (V0 m c) R0 c (Gfin m c)) fun w => (dats m 0 c).arrAt w cfg0.N

/-- The lines after the region leave a buffer they do not write as it was. -/
theorem fin_keep (c : Dev nD) (b : Ref sig .tc) (hb : ∀ w, Pipeline.arrRef spec0 w ≠ b)
    (ho : b ≠ main_v4 ∧ b ≠ main_v5 ∧ b ≠ main_cst ∧ b ≠ main_v6) :
    StableHlo.after (List.flatten [hostOps1]) (Vfin m c) (Proc.devRef .tc b) = Pipeline.withR (V0 m c) R0 c (Gfin m c) (Proc.devRef .tc b) := by
  rw [StableHlo.after_of_forall_not_mem (b := Proc.devRef .tc b) _ _ (List.forall_iff_forall_mem.mp (by
    simp only [hostOps1, List.flatten_cons, List.flatten_nil, List.append_nil, List.Forall, StableHlo.nullary_writes, StableHlo.unary_writes,
      StableHlo.binary_writes, StableHlo.reshape_writes, Finset.mem_singleton]
    exact ⟨StableHlo.devRef_ne_of_ne ho.1, StableHlo.devRef_ne_of_ne ho.2.1, StableHlo.devRef_ne_of_ne ho.2.2.1, StableHlo.devRef_ne_of_ne ho.2.2.2⟩))]
  exact Pipeline.withArrays_of_ne _ c _ _ b hb

theorem fin_arg (c : Dev nD) (b : Ref sig .tc) (hb : ∀ w, Pipeline.arrRef spec0 w ≠ b) (hR : b ∉ R0)
    (ho : b ≠ main_v4 ∧ b ≠ main_v5 ∧ b ≠ main_cst ∧ b ≠ main_v6) :
    StableHlo.after (List.flatten [hostOps1]) (Vfin m c) (Proc.devRef .tc b) = V m c b :=
  (fin_keep m c b hb ho).trans (Pipeline.withR_of_not_mem _ _ _ _ b hR)

theorem fin_res (c : Dev nD) :
    StableHlo.after (List.flatten [hostOps1]) (Vfin m c) (Proc.devRef .tc main_v3_0) = Gres m c :=
  (fin_keep m c main_v3_0 (by exact (by decide : ∀ w, Pipeline.arrRef spec0 w ≠ main_v3_0)) (by decide)).trans
    ((Pipeline.withR_of_mem _ _ _ _ main_v3_0 (by decide)).trans (Gfin_res m c))

theorem fin_loss (c : Dev nD) :
    StableHlo.after (List.flatten [hostOps1]) (Vfin m c) (Proc.devRef .tc main_v6) = lossRes m c := by
  have h5 : Vfin m c (Proc.devRef .tc main_v3_1) = Lres m c :=
    (Pipeline.withArrays_arr spec0 launch0.win.arr_inj c _ _ 5).trans (loss_array m c)
  show StableHlo.after hostOps1 (Vfin m c) (Proc.devRef .tc main_v6) = _
  unfold lossRes
  rw [← h5]
  generalize Vfin m c = W
  after_results
  rfl

set_option backward.isDefEq.respectTransparency.types false in
/-- THE RUN: every core's arguments as launched, its two results as computed, every semaphore at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v6) = lossRes m c
      ∧ r.2.mem ((c.tc : Thread nD τ).loc main_v3_0) = Gres m c)
      ∧ r.2.sem = fun _ => 0) :=
  Pipeline.θ_run_frame_dmaR_aroundV cfgs (dats m) (0 : Fin 1) launch0 osem0 defs₀ Variants.none ownSemFacts0 ∅ R0
    (Finset.empty_subset _) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := Gfin m) (hmain := hmain' m) (hA := A_eq m)
    (hin := fun c => (quiet_eq m c _ (V m) rfl).1) (hout := fun c => (quiet_eq m c _ (Gfin m) (Gfin_res m c)).2)
    (Q' := _) (hQ' := fun r h => ⟨fun c => ⟨⟨
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans ((fin_arg m c main_arg2 (by decide) (by decide) (by decide)).trans (V_main_arg2 m c)),
      ((h.1 c).2 main_arg3 (Pipeline.mem_restRefs_of main_arg3 (by decide) (by decide))).trans ((fin_arg m c main_arg3 (by decide) (by decide) (by decide)).trans (V_main_arg3 m c)),
      ((h.1 c).2 main_arg4 (Pipeline.mem_restRefs_of main_arg4 (by decide) (by decide))).trans ((fin_arg m c main_arg4 (by decide) (by decide) (by decide)).trans (V_main_arg4 m c))⟩,
      ((h.1 c).2 main_v6 (Pipeline.mem_restRefs_of main_v6 (by decide) (by decide))).trans (fin_loss m c),
      ((h.1 c).2 main_v3_0 (Pipeline.mem_restRefs_of main_v3_0 (by decide) (by decide))).trans (fin_res m c)⟩, h.2⟩)

/-- THE FRAME: every core's arguments end as launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).1, h.2⟩) (run m ρ)

end Cert.KernelIdeal.Clean

end
-- ==== Proof.Math.Row.lean ====
/-
  One row of a hundred bins, over the reals and the extended reals: the log of a sum of exponentials, the two ways the
  kernel and the reference take a row's log densities, and the quotient of the two means.
-/
module

public import Idealize.ShloMosaic.PureOps.Ideal.Laws

@[expose] public section

noncomputable section

namespace Cert.LogDensity

open Idealize.ShloMosaic
open scoped BigOperators

/-- A finite extended real is a real. -/
theorem exists_real {x : EReal} (h : ⊥ < x) (h' : x < ⊤) : ∃ r : ℝ, x = (r : EReal) :=
  ⟨x.toReal, (EReal.coe_toReal h'.ne h.ne').symm⟩

/-- The sum of reals, as extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The logarithm of a positive real. -/
theorem log_coe {r : ℝ} (h : 0 < r) : Ideal.log (r : EReal) = (Real.log r : EReal) := by
  show (if r ≤ 0 then (⊥ : EReal) else (Real.log r : EReal)) = _
  rw [if_neg (not_le.2 h)]

/-- The exponential of a real. -/
theorem exp_coe (r : ℝ) : Ideal.exp (r : EReal) = (Real.exp r : EReal) := rfl

/-- The log of the sum of the exponentials of a row. -/
def L (u : Fin 100 → ℝ) : ℝ := Real.log (∑ c, Real.exp (u c))

/-- The sum of a row's exponentials is positive. -/
theorem sum_exp_pos (u : Fin 100 → ℝ) : 0 < ∑ c, Real.exp (u c) :=
  Finset.sum_pos (fun c _ => Real.exp_pos _) ⟨0, Finset.mem_univ _⟩

/-- Taking a constant from every entry of the row takes it from the log of the sum of exponentials. -/
theorem L_sub (u : Fin 100 → ℝ) (k : ℝ) : L (fun c => u c - k) = L u - k := by
  unfold L
  have h : ∑ c, Real.exp (u c - k) = (∑ c, Real.exp (u c)) * Real.exp (-k) := by
    rw [Finset.sum_mul]
    exact Finset.sum_congr rfl fun c _ => by rw [sub_eq_add_neg, Real.exp_add]
  rw [h, Real.log_mul (sum_exp_pos u).ne' (Real.exp_pos _).ne', Real.log_exp, sub_eq_add_neg]

/-- The log of the sum of the exponentials of a row of reals, over the extended reals. -/
theorem log_sum_exp (u : Fin 100 → ℝ) : Ideal.log (∑ c, Ideal.exp ((u c : ℝ) : EReal)) = (L u : EReal) := by
  rw [show (∑ c, Ideal.exp ((u c : ℝ) : EReal)) = ((∑ c, Real.exp (u c) : ℝ) : EReal) from
    (Finset.sum_congr rfl fun c _ => exp_coe (u c)).trans (coe_sum _ _), log_coe (sum_exp_pos u)]
  rfl

/-- The same after taking a constant from the row. -/
theorem log_sum_exp_sub (u : Fin 100 → ℝ) (k : ℝ) :
    Ideal.log (∑ c, Ideal.exp ((u c : EReal) - (k : EReal))) = ((L u - k : ℝ) : EReal) := by
  rw [← L_sub, ← log_sum_exp]
  rfl

/-- The maximum of a row of reals, folded from minus infinity, is a real. -/
theorem fold_max_real (f : Fin 100 → EReal) (u : Fin 100 → ℝ) (hf : ∀ c, f c = (u c : EReal)) :
    ∃ r : ℝ, (Finset.univ : Finset (Fin 100)).fold max ⊥ f = (r : EReal) := by
  have key : ∀ s : Finset (Fin 100), s.Nonempty → ∃ r : ℝ, s.fold max ⊥ f = (r : EReal) := by
    intro s hs
    induction hs using Finset.Nonempty.cons_induction with
    | singleton a => exact ⟨u a, by rw [Finset.fold_singleton, hf]; exact max_eq_left bot_le⟩
    | cons a s ha hs ih =>
      obtain ⟨r, hr⟩ := ih
      exact ⟨max (u a) r, by rw [Finset.fold_cons, hr, hf, ← EReal.coe_strictMono.monotone.map_max]⟩
  exact key _ ⟨0, Finset.mem_univ _⟩

/-- The kernel's log density: the entry minus the maximum plus the log of the sum of the exponentials of the differences
    from the maximum. -/
theorem kernel_row (u : Fin 100 → ℝ) (m : ℝ) (c : Fin 100) :
    (u c : EReal) - ((m : EReal) + Ideal.log (∑ k, Ideal.exp ((u k : EReal) - (m : EReal)))) = ((u c - L u : ℝ) : EReal) := by
  rw [log_sum_exp_sub, ← EReal.coe_add, add_sub_cancel, ← EReal.coe_sub]

/-- The reference's log density: the log-softmax of the logits, minus the log widths, minus the log of the sum of the
    exponentials of that. -/
theorem reference_row (l w : Fin 100 → ℝ) (m : ℝ) (v : Fin 100 → EReal)
    (hv : ∀ c, v c = ((l c : EReal) - (m : EReal)) - Ideal.log (∑ k, Ideal.exp ((l k : EReal) - (m : EReal))) - (w c : EReal))
    (c : Fin 100) :
    v c - Ideal.log (∑ k, Ideal.exp (v k)) = (((l c - w c) - L (fun k => l k - w k) : ℝ) : EReal) := by
  have e : ∀ k, v k = (((l k - w k) - L l : ℝ) : EReal) := by
    intro k
    rw [hv, log_sum_exp_sub, ← EReal.coe_sub, ← EReal.coe_sub, ← EReal.coe_sub]
    congr 1
    rw [sub_sub_sub_cancel_right, sub_right_comm]
  simp only [e]
  rw [log_sum_exp, L_sub (fun k => l k - w k) (L l), ← EReal.coe_sub, sub_sub_sub_cancel_right]

/-- The quotient of a sum times a hundred over ninety-nine by another sum is the quotient of their means over ninety-nine
    and a hundred entries. -/
theorem ratio_of_means (a b : ℝ) :
    Ideal.div ((a : EReal) * ((100 / 99 : ℝ) : EReal)) (b : EReal)
      = Ideal.div (Ideal.div (a : EReal) ((99 : ℝ) : EReal)) (Ideal.div (b : EReal) ((100 : ℝ) : EReal)) := by
  have h99 : Ideal.div (a : EReal) ((99 : ℝ) : EReal) = ((a * 99⁻¹ : ℝ) : EReal) := by
    unfold Ideal.div
    rw [if_neg (by exact_mod_cast (by norm_num : (99 : ℝ) ≠ 0)), EReal.coe_mul, EReal.coe_inv]
  have h100 : Ideal.div (b : EReal) ((100 : ℝ) : EReal) = ((b * 100⁻¹ : ℝ) : EReal) := by
    unfold Ideal.div
    rw [if_neg (by exact_mod_cast (by norm_num : (100 : ℝ) ≠ 0)), EReal.coe_mul, EReal.coe_inv]
  rw [h99, h100, ← EReal.coe_mul]
  unfold Ideal.div
  by_cases hb : b = 0
  · subst hb
    have z1 : ((0 : ℝ) : EReal) = 0 := EReal.coe_zero
    have z2 : ((0 * 100⁻¹ : ℝ) : EReal) = 0 := by rw [zero_mul]; exact EReal.coe_zero
    rw [if_pos z1, if_pos z2]
    have : (0 < ((a * (100 / 99) : ℝ) : EReal)) ↔ (0 < ((a * 99⁻¹ : ℝ) : EReal)) := by
      rw [← EReal.coe_zero, EReal.coe_lt_coe_iff, EReal.coe_lt_coe_iff]
      rw [mul_pos_iff_of_pos_right (by norm_num), mul_pos_iff_of_pos_right (by norm_num)]
    rw [if_congr this rfl rfl]
  · have hb' : b * 100⁻¹ ≠ 0 := mul_ne_zero hb (by norm_num)
    rw [if_neg (by exact_mod_cast hb), if_neg (by exact_mod_cast hb'), ← EReal.coe_inv, ← EReal.coe_inv, ← EReal.coe_mul,
      ← EReal.coe_mul]
    congr 1
    rw [mul_inv, inv_inv, div_eq_mul_inv]
    rw [mul_assoc a, mul_assoc a, mul_comm (100 : ℝ), mul_assoc (99⁻¹ : ℝ), mul_comm (100 : ℝ) b⁻¹]

/-- A real factor that is not negative goes into a sum. -/
theorem mul_sum_right {ι : Type} (s : Finset ι) (f : ι → EReal) {k : ℝ} (hk : 0 ≤ k) :
    ∑ i ∈ s, f i * (k : EReal) = (∑ i ∈ s, f i) * (k : EReal) := by
  classical
  induction s using Finset.induction_on with
  | empty => simp
  | insert a s ha ih =>
    rw [Finset.sum_insert ha, Finset.sum_insert ha, ih]
    exact (EReal.right_distrib_of_nonneg_of_ne_top (by exact_mod_cast hk) (EReal.coe_ne_top k) _ _).symm

/-- Dividing by 16384 is multiplying by its inverse. -/
theorem div_16384 (x : EReal) : Ideal.div x ((16384 : ℝ) : EReal) = x * ((16384⁻¹ : ℝ) : EReal) := by
  unfold Ideal.div
  rw [if_neg (by exact_mod_cast (by norm_num : (16384 : ℝ) ≠ 0)), EReal.coe_inv]

end Cert.LogDensity

end
-- ==== Proof.Math.Select.lean ====
/-
  The bin a target lies in: counted as the edges below it, it is the one bin whose two comparisons both hold, and the word
  the index is computed as.
-/
module

public import Idealize.ShloMosaic.PureOps.Ideal.Laws

@[expose] public section

noncomputable section

namespace Cert.LogDensity

open Idealize.ShloMosaic
open scoped BigOperators

/-- How many edges lie below `t`. -/
def below (β : Fin 101 → ℝ) (t : ℝ) : ℕ := (Finset.univ.filter fun j => β j < t).card

/-- At most all of them. -/
theorem below_le (β : Fin 101 → ℝ) (t : ℝ) : below β t ≤ 101 :=
  (Finset.card_le_univ _).trans (by rw [Fintype.card_fin])

/-- The edges below `t` are the first `below β t` ones. -/
theorem lt_iff_below {β : Fin 101 → ℝ} (hβ : StrictMono β) (t : ℝ) (j : Fin 101) : β j < t ↔ j.val < below β t := by
  constructor
  · intro h
    have hs : Finset.Iic j ⊆ Finset.univ.filter fun j => β j < t := fun i hi =>
      Finset.mem_filter.2 ⟨Finset.mem_univ _, lt_of_le_of_lt (hβ.monotone (Finset.mem_Iic.1 hi)) h⟩
    have := Finset.card_le_card hs
    rw [Fin.card_Iic] at this
    exact this
  · intro h
    by_contra hn
    have hs : (Finset.univ.filter fun j => β j < t) ⊆ Finset.Iio j := fun i hi => Finset.mem_Iio.2 (by
      by_contra hij
      exact hn (lt_of_le_of_lt (hβ.monotone (not_lt.1 hij)) (Finset.mem_filter.1 hi).2))
    have := Finset.card_le_card hs
    rw [Fin.card_Iio] at this
    exact absurd h (not_lt.2 this)

/-- The bin with `k` edges below the target. -/
def binAt (k : ℕ) : ℕ := if k = 0 then 0 else min (k - 1) 99

theorem binAt_lt (k : ℕ) : binAt k < 100 := by
  unfold binAt
  split
  · decide
  · exact lt_of_le_of_lt (min_le_right _ _) (by decide)

/-- The bin `t` lies in; below the first edge it is the first bin, above the last edge the last. -/
def bin (β : Fin 101 → ℝ) (t : ℝ) : Fin 100 := ⟨binAt (below β t), binAt_lt _⟩

/-- The bin `t` lies in is the one whose lower end is below `t` and whose upper end is not, the outermost ends standing for
    the infinities. -/
theorem select_iff {β : Fin 101 → ℝ} (hβ : StrictMono β) (t : ℝ) {lo hi : EReal} (hlo : lo < (t : EReal)) (hhi : (t : EReal) ≤ hi)
    (c : Fin 100) :
    ((if c.val = 0 then lo else (β c.castSucc : EReal)) < (t : EReal) ∧ (t : EReal) ≤ (if c.val = 99 then hi else (β c.succ : EReal)))
      ↔ c = bin β t := by
  have h1 : ((if c.val = 0 then lo else (β c.castSucc : EReal)) < (t : EReal)) ↔ (c.val = 0 ∨ c.val < below β t) := by
    by_cases h : c.val = 0
    · rw [if_pos h]; exact ⟨fun _ => Or.inl h, fun _ => hlo⟩
    · rw [if_neg h, EReal.coe_lt_coe_iff]
      exact (lt_iff_below hβ t c.castSucc).trans ⟨Or.inr, fun x => x.resolve_left h⟩
  have h2 : ((t : EReal) ≤ (if c.val = 99 then hi else (β c.succ : EReal))) ↔ (c.val = 99 ∨ ¬ (c.val + 1 < below β t)) := by
    by_cases h : c.val = 99
    · rw [if_pos h]; exact ⟨fun _ => Or.inl h, fun _ => hhi⟩
    · rw [if_neg h, EReal.coe_le_coe_iff, ← not_lt]
      exact (not_congr (lt_iff_below hβ t c.succ)).trans ⟨Or.inr, fun x => x.resolve_left h⟩
  rw [h1, h2, Fin.ext_iff]
  have hc := c.isLt
  have hk := below_le β t
  show _ ↔ c.val = binAt (below β t)
  unfold binAt
  generalize below β t = k at hk ⊢
  split <;> omega

/-- The target is at or below the first edge when no edge lies below it. -/
theorem le_first_iff {β : Fin 101 → ℝ} (hβ : StrictMono β) (t : ℝ) : t ≤ β 0 ↔ below β t = 0 := by
  rw [← not_lt, lt_iff_below hβ t 0]
  show ¬ (0 < _) ↔ _
  omega

/-- At or above the last edge, the bin is the last. -/
theorem last_le {β : Fin 101 → ℝ} (hβ : StrictMono β) (t : ℝ) (h : β 100 ≤ t) : binAt (below β t) = 99 := by
  have h99 : β 99 < t := lt_of_lt_of_le (hβ (by decide)) h
  have := (lt_iff_below hβ t 99).1 h99
  have h99' : 99 < below β t := this
  unfold binAt
  split <;> omega

/-- The count less one, clipped to the bins, is the bin's word. -/
theorem clip_word : ∀ k : Fin 102, k.val ≠ 0 →
    IntOp.minsi 99#32 (IntOp.maxsi 0#32 (IntOp.subi (BitVec.ofNat 32 k.val) 1#32)) = BitVec.ofNat 32 (binAt k.val) := by
  decide +kernel

/-- The bin's index as it is computed: the count less one, the ends set by comparison with the outermost edges, clipped. -/
theorem index_word {β : Fin 101 → ℝ} (hβ : StrictMono β) (t : ℝ) (p q : BitVec 1) (hp : p = 1#1 ↔ t ≤ β 0) (hq : q = 1#1 ↔ β 100 ≤ t) :
    IntOp.minsi 99#32 (IntOp.maxsi 0#32 (Scalar.select q 99#32 (Scalar.select p 0#32
      (IntOp.subi (BitVec.ofNat 32 (below β t)) 1#32)))) = BitVec.ofNat 32 (bin β t).val := by
  show _ = BitVec.ofNat 32 (binAt (below β t))
  show IntOp.minsi 99#32 (IntOp.maxsi 0#32 (if q = 1#1 then 99#32 else if p = 1#1 then 0#32 else _)) = _
  by_cases h : q = 1#1
  · rw [if_pos h, last_le hβ t (hq.1 h)]; decide
  · rw [if_neg h]
    by_cases h' : p = 1#1
    · rw [if_pos h', (le_first_iff hβ t).1 (hp.1 h')]; decide
    · rw [if_neg h']
      exact clip_word ⟨below β t, Nat.lt_succ_of_le (below_le β t)⟩ fun e => h' (hp.2 ((le_first_iff hβ t).2 e))

end Cert.LogDensity

end
-- ==== Proof.Math.Spec.lean ====
/-
  What both programs compute, over the reals: a row's entries in one column, the column's share of the row's loss, the row's
  loss.
-/
module

public import proofs.«01_k».proof.Proof.Math.Row
public import proofs.«01_k».proof.Proof.Math.Select
public import Idealize.ShloMosaic.Lib.ValueIdx

@[expose] public section

noncomputable section

namespace Cert.LogDensity

open Idealize.ShloMosaic
open scoped BigOperators

/-- A row's unnormalised log densities in column `d`: the logits less the log widths. -/
def ent (σ : Fin 64 → ℝ) (ω : Fin 100 → Fin 26 → Fin 64 → ℝ) (b : Fin 100 → Fin 26 → ℝ) (β : Fin 101 → ℝ) (d : Fin 26) (c : Fin 100) : ℝ :=
  (∑ m, σ m * ω c d m) + (b c d - Real.log (β c.succ - β c.castSucc))

/-- The sum of the squared differences of neighbouring entries. -/
def sqd (v : Fin 100 → ℝ) : ℝ := ∑ k : Fin 99, (v k.succ - v k.castSucc) * (v k.succ - v k.castSucc)

/-- The sum of the absolute values of the log densities. -/
def sab (v : Fin 100 → ℝ) : ℝ := ∑ c, max (v c - L v) (-(v c - L v))

/-- Whether the target counts. -/
def msk (t : ℝ) : EReal := if (t : EReal) = 0 then 0 else 1

/-- The column's share of the row's loss: a tenth of the spikiness, less the log density of the target's bin. -/
def term (v : Fin 100 → ℝ) (β : Fin 101 → ℝ) (t : ℝ) : EReal :=
  Ideal.ofBits .f32 0x3DCCCCCD#32 * Ideal.div ((sqd v : EReal) * ((100 / 99 : ℝ) : EReal)) (sab v : EReal)
    - ((v (bin β t) - L v : ℝ) : EReal)

/-- The row's loss: the mean over the columns that count. -/
def per (v : Fin 26 → Fin 100 → ℝ) (β : Fin 101 → ℝ) (t : Fin 26 → ℝ) : EReal :=
  Ideal.div (∑ d, term (v d) β (t d) * msk (t d)) (max (∑ d, msk (t d)) 1)

/-- A sum over a vector's indices is a sum over its positions. -/
theorem sum_rank1 {n : ℕ} (f : (⟨1, ![n]⟩ : Shape).Idx → EReal) : ∑ i, f i = ∑ r : Fin n, f (ValueIdx.ix1 r) :=
  Fintype.sum_equiv ⟨fun i => i 0, ValueIdx.ix1, fun i => (ValueIdx.eq_ix1 i).symm, fun _ => rfl⟩ _ _
    fun i => congrArg f (ValueIdx.eq_ix1 i)

/-- A sum over the rows is the sum over the blocks of the sums over the rows of a block. -/
theorem sum_blocks (f : Fin 16384 → EReal) :
    ∑ r, f r = ∑ t : Fin 16, ∑ i : Fin 1024, f ⟨1024 * t.val + i.val, by have := t.isLt; have := i.isLt; omega⟩ := by
  rw [← Fintype.sum_prod_type']
  refine (Fintype.sum_equiv (finProdFinEquiv (m := 16) (n := 1024)) _ _ fun p => ?_).symm
  exact congrArg f (Fin.ext (Nat.add_comm _ _))

end Cert.LogDensity

end
-- ==== Proof.Math.Words.lean ====
/-
  The words of the two programs' float literals, as extended reals.
-/
module

public import Idealize.ShloMosaic.PureOps.Ideal.Laws
public import Idealize.ShloMosaic.Lib.IdealHost

@[expose] public section

noncomputable section

namespace Cert.LogDensity

open Idealize.ShloMosaic

theorem word_bot : Ideal.ofBits .f32 0xFF800000#32 = ⊥ := by simp [Ideal.ofBits, Ideal.ieee]
theorem word_top : Ideal.ofBits .f32 0x7F800000#32 = ⊤ := by simp [Ideal.ofBits, Ideal.ieee]
theorem word_99 : Ideal.ofBits .f32 0x42C60000#32 = ((99 : ℝ) : EReal) := by
  simp [Ideal.ofBits, Ideal.ieee]; rw [← EReal.coe_mul]; norm_num
theorem word_100 : Ideal.ofBits .f32 0x42C80000#32 = ((100 : ℝ) : EReal) := by
  simp [Ideal.ofBits, Ideal.ieee]; rw [← EReal.coe_mul]; norm_num
theorem word_16384 : Ideal.ofBits .f32 0x46800000#32 = ((16384 : ℝ) : EReal) := by
  simp [Ideal.ofBits, Ideal.ieee]; rw [← EReal.coe_mul]; norm_num
theorem word_inv_16384 : Ideal.ofBits .f32 0x38800000#32 = ((16384⁻¹ : ℝ) : EReal) := by
  simp [Ideal.ofBits, Ideal.ieee]; rw [← EReal.coe_mul]; norm_num

end Cert.LogDensity

end
-- ==== Proof.Ideal.RowValue.lean ====
/-
  The kernel's values of one column, read at a row, over the extended reals: a row whose entries are reals has real log
  densities, and the sums the kernel takes on the matrix unit are the real sums.
-/
module

public import proofs.«01_k».proof.Proof.Ideal.Point
public import proofs.«01_k».proof.Proof.Math.Spec
public import proofs.«01_k».proof.Proof.Math.Words
public import Idealize.ShloMosaic.Lib.ValueIdx
public import Idealize.ShloMosaic.Lib.MatmulPlain
public import Idealize.ShloMosaic.Lib.Pipeline.Value
public import Idealize.ShloMosaic.PureOps.Ideal.Laws

@[expose] public section

noncomputable section

namespace Cert.KernelIdeal.Clean

open Cert.KernelIdeal Cert.KernelIdeal.Gen Idealize.ShloMosaic Idealize.ShloMosaic.ValueIdx Cert.LogDensity
open scoped BigOperators

/-! ## Layout operations at a row and a column -/

/-- A single row broadcast down the rows. -/
theorem broadcast_row {M N : ℕ} {α : Type} (hN : N ≠ 1) (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 0 c) :=
  broadcastTo_apply x h (ix2 r c) (ix2 0 c) fun a => match a with
    | ⟨0, _⟩ => (if_pos rfl).symm
    | ⟨1, _⟩ => (if_neg hN).symm

/-- A single column broadcast along the columns. -/
theorem broadcast_col {M N : ℕ} {α : Type} (hM : M ≠ 1) (x : (⟨2, ![M, 1]⟩ : Shape).Idx → α)
    (h : (⟨2, ![M, 1]⟩ : Shape).Broadcasts ⟨2, ![M, N]⟩) (r : Fin M) (c : Fin N) :
    broadcastTo ⟨2, ![M, N]⟩ x h (ix2 r c) = x (ix2 r 0) :=
  broadcastTo_apply x h (ix2 r c) (ix2 r 0) fun a => match a with
    | ⟨0, _⟩ => (if_neg hM).symm
    | ⟨1, _⟩ => (if_pos rfl).symm

/-- A vector seen as a column. -/
theorem cast_col {M : ℕ} {α : Type} (x : (⟨1, ![M]⟩ : Shape).Idx → α) (h : (⟨1, ![M]⟩ : Shape).ShapeCasts ⟨2, ![M, 1]⟩) (r : Fin M) :
    shapeCast ⟨2, ![M, 1]⟩ x h (ix2 r 0) = x (ix1 r) :=
  shapeCast_apply x h (ix2 r 0) (ix1 r) (by
    rw [Shape.rowMajor_val_one, Shape.rowMajor_val_two]; show r.val = r.val * 1 + 0; omega)

/-- A matrix seen as a block of one. -/
theorem cast_lead {M N : ℕ} {α : Type} (x : (⟨2, ![M, N]⟩ : Shape).Idx → α) (h : (⟨2, ![M, N]⟩ : Shape).ShapeCasts ⟨3, ![1, M, N]⟩)
    (r : Fin M) (c : Fin N) : shapeCast ⟨3, ![1, M, N]⟩ x h (ix3 0 r c) = x (ix2 r c) :=
  shapeCast_apply x h (ix3 0 r c) (ix2 r c) (by
    rw [Shape.rowMajor_val_two, Shape.rowMajor_val_three]; show r.val * N + c.val = (0 * M + r.val) * N + c.val; rw [Nat.zero_mul, Nat.zero_add])

/-- A block of one seen as a matrix. -/
theorem cast_drop {M N : ℕ} {α : Type} (x : (⟨3, ![1, M, N]⟩ : Shape).Idx → α) (h : (⟨3, ![1, M, N]⟩ : Shape).ShapeCasts ⟨2, ![M, N]⟩)
    (r : Fin M) (c : Fin N) : shapeCast ⟨2, ![M, N]⟩ x h (ix2 r c) = x (ix3 0 r c) :=
  shapeCast_apply x h (ix2 r c) (ix3 0 r c) (by
    rw [Shape.rowMajor_val_two, Shape.rowMajor_val_three]; show (0 * M + r.val) * N + c.val = r.val * N + c.val; rw [Nat.zero_mul, Nat.zero_add])

/-- A run of columns of a matrix. -/
theorem slice_at {M N K : ℕ} {α : Type} (o p : ℕ) (x : (⟨2, ![M, N]⟩ : Shape).Idx → α) {Q : ℕ}
    (h : (⟨2, ![M, N]⟩ : Shape).Slices ![o, p] ⟨2, ![Q, K]⟩) (r : Fin Q) (c : Fin K) (r' : Fin M) (c' : Fin N)
    (hr : r'.val = o + r.val) (hc : c'.val = p + c.val) :
    extractStridedSlice ⟨2, ![Q, K]⟩ ![o, p] x h (ix2 r c) = x (ix2 r' c') :=
  extractStridedSlice_apply _ x h (ix2 r c) (ix2 r' c') fun a => match a with
    | ⟨0, _⟩ => hr
    | ⟨1, _⟩ => hc

/-! ## The column's entries -/

/-- An entry is the row of scores times the weights' column, plus the bias. -/
theorem U_apply (d : Fin 26) (s : Vec Ideal S1024x64 .f32) (bw : FVec Ideal S26x100 .f32) (w : Vec Ideal S1x64x100 .f32)
    (r : Fin 1024) (c : Fin 100) :
    U d s bw w (ix2 r c) = (∑ k : Fin 64, s (ix2 r k) * w (ix3 0 k c)) + bw (ix2 d c) := by
  have h1 : FloatOps.matmul (F := Ideal) (φ₁ := .f32) (φ₂ := .f32) (DotDims.plain 1024 64 100) none s
      (shapeCast (α := Ideal .f32) S64x100 w shapeCasts_S1x64x100_S64x100) (constant S1024x100 .f32 0x00000000#32) (ix2 r c) = ∑ k : Fin 64, s (ix2 r k) * w (ix3 0 k c) := by
    refine (Ideal.matmul_plain_apply none _ _ _ r c).trans ?_
    rw [constant_apply, Ideal.ofBits_zero_f32, zero_add]
    exact Finset.sum_congr rfl fun k _ => by rw [cast_drop]
  have h2 : broadcastTo S1024x100 (extractStridedSlice S1x100 ![d.val, 0] bw (slices_bw d)) broadcasts_S1x100_S1024x100 (ix2 r c)
      = bw (ix2 d c) := by
    refine (broadcast_row (by decide) _ _ r c).trans ?_
    exact slice_at d.val 0 bw _ 0 c d c rfl (Nat.zero_add _).symm
  exact congrArg₂ (· + ·) h1 h2

/-- The row maximum is a fold over the row. -/
theorem mx_apply (u : FVec Ideal S1024x100 .f32) (r : Fin 1024) :
    mx u (ix2 r 0) = (Finset.univ : Finset (Fin 100)).fold max ⊥ (fun c => u (ix2 r c)) := by
  refine (cast_col _ _ r).trans ?_
  refine (Ideal.multiReduction_maximumf_single u _ _ _ _ (ix1 r)).trans ?_
  show Finset.univ.fold max (Ideal.ofBits .f32 0xFF800000#32) _ = _
  rw [word_bot]
  refine congrArg (Finset.fold max ⊥ · Finset.univ) (funext fun k => congrArg u ?_)
  funext a
  match a with
  | ⟨0, _⟩ => rfl
  | ⟨1, _⟩ => rfl

/-- A row sum is the sum over the row. -/
theorem rowsum_apply (x : FVec Ideal S1024x100 .f32) (r : Fin 1024) :
    shapeCast S1024x1 (multiReduction .add [1] S1024 x 0x00000000#32 reduces_S1024x100_S1024 (.inl rfl) rfl)
      shapeCasts_S1024_S1024x1 (ix2 r 0) = ∑ c : Fin 100, x (ix2 r c) := by
  refine (cast_col _ _ r).trans ?_
  refine (Ideal.multiReduction_add_single x _ _ _ _ (ix1 r)).trans ?_
  refine Finset.sum_congr rfl fun k _ => congrArg x ?_
  funext a
  match a with
  | ⟨0, _⟩ => rfl
  | ⟨1, _⟩ => rfl

section Real
variable {u : FVec Ideal S1024x100 .f32} {r : Fin 1024} {v : Fin 100 → ℝ} (hu : ∀ c, u (ix2 r c) = (v c : EReal))
include hu

/-- A real row's log of the sum of exponentials. -/
theorem lz_real : lz u (ix2 r 0) = (L v : EReal) := by
  obtain ⟨m, hm⟩ := fold_max_real (fun c => u (ix2 r c)) v hu
  have hmx : mx u (ix2 r 0) = (m : EReal) := (mx_apply u r).trans hm
  refine (congrArg₂ (· + ·) hmx (congrArg Ideal.log (rowsum_apply _ r))).trans ?_
  have e : ∀ c : Fin 100, exp (subf u (broadcastTo S1024x100 (mx u) broadcasts_S1024x1_S1024x100)) (ix2 r c)
      = Ideal.exp ((v c : EReal) - (m : EReal)) := fun c => by
    show Ideal.exp (u (ix2 r c) - broadcastTo S1024x100 (mx u) broadcasts_S1024x1_S1024x100 (ix2 r c)) = _
    rw [hu, broadcast_col (by decide), hmx]
  show (m : EReal) + Ideal.log _ = _
  rw [Finset.sum_congr rfl fun c _ => e c, log_sum_exp_sub, ← EReal.coe_add, add_sub_cancel]

/-- A real row's log densities. -/
theorem logp_real (c : Fin 100) : logp u (ix2 r c) = ((v c - L v : ℝ) : EReal) := by
  show u (ix2 r c) - broadcastTo S1024x100 (lz u) broadcasts_S1024x1_S1024x100 (ix2 r c) = _
  rw [broadcast_col (by decide), lz_real hu, hu, ← EReal.coe_sub]

/-- The sum of the squared differences, in every lane. -/
theorem sdq_real (l : Fin 128) : sdq (k0_pay7 (F := Ideal)) u (ix2 r l) = (sqd v : EReal) := by
  show FloatOps.matmul (F := Ideal) (DotDims.plain 1024 99 128) none (truncf .bf16 (mulf (du u) (du u)) bitsLt_bf16_f32) (k0_pay7 (F := Ideal))
    (constant S1024x128 .f32 0x00000000#32) (ix2 r l) = _
  refine (Ideal.matmul_plain_apply none _ _ _ r l).trans ?_
  rw [constant_apply, Ideal.ofBits_zero_f32, zero_add]
  unfold sqd
  rw [← coe_sum]
  refine Finset.sum_congr rfl fun k _ => ?_
  have hd : du u (ix2 r k) = ((v k.succ - v k.castSucc : ℝ) : EReal) := by
    refine (congrArg₂ (· - ·) (slice_at 0 1 u _ r k r k.succ (Nat.zero_add _).symm (Nat.add_comm _ _))
      (slice_at 0 0 u _ r k r k.castSucc (Nat.zero_add _).symm (Nat.zero_add _).symm)).trans ?_
    show u (ix2 r k.succ) - u (ix2 r k.castSucc) = _
    rw [hu, hu, ← EReal.coe_sub]
  show du u (ix2 r k) * du u (ix2 r k) * Ideal.ofBits .bf16 0x3F80#16 = _
  rw [Ideal.ofBits_one_bf16, mul_one, hd, ← EReal.coe_mul]

/-- The sum of the absolute values, in every lane. -/
theorem salp_real (l : Fin 128) : salp (k0_pay6 (F := Ideal)) u (ix2 r l) = (sab v : EReal) := by
  show FloatOps.matmul (F := Ideal) (DotDims.plain 1024 100 128) none (truncf .bf16 (absf (logp u)) bitsLt_bf16_f32) (k0_pay6 (F := Ideal))
    (constant S1024x128 .f32 0x00000000#32) (ix2 r l) = _
  refine (Ideal.matmul_plain_apply none _ _ _ r l).trans ?_
  rw [constant_apply, Ideal.ofBits_zero_f32, zero_add]
  unfold sab
  rw [← coe_sum]
  refine Finset.sum_congr rfl fun c _ => ?_
  show max (logp u (ix2 r c)) (-(logp u (ix2 r c))) * Ideal.ofBits .bf16 0x3F80#16 = _
  rw [Ideal.ofBits_one_bf16, mul_one, logp_real hu, ← EReal.coe_neg, ← EReal.coe_strictMono.monotone.map_max]

/-- The entry of the one bin whose two comparisons hold, in every lane. -/
theorem selu_real (blo bhi : FVec Ideal S1x100 .f32) (t : Vec Ideal S1024x1 .f32) (c₀ : Fin 100)
    (h : ∀ c : Fin 100, (blo (ix2 0 c) < t (ix2 r 0) ∧ t (ix2 r 0) ≤ bhi (ix2 0 c)) ↔ c = c₀) (l : Fin 128) :
    selu blo bhi (k0_pay6 (F := Ideal)) t u (ix2 r l) = (v c₀ : EReal) := by
  show FloatOps.matmul (F := Ideal) (DotDims.plain 1024 100 128) none (truncf .bf16 (select _ _ _) bitsLt_bf16_f32) (k0_pay6 (F := Ideal))
    (constant S1024x128 .f32 0x00000000#32) (ix2 r l) = _
  refine (Ideal.matmul_plain_apply none _ _ _ r l).trans ?_
  rw [constant_apply, Ideal.ofBits_zero_f32, zero_add]
  refine (Finset.sum_congr rfl (g := fun c => if c = c₀ then (v c : EReal) else 0) fun c _ => ?_).trans
    ((Finset.sum_ite_eq' Finset.univ c₀ fun c => (v c : EReal)).trans (if_pos (Finset.mem_univ _)))
  show (if IntOp.andi
      (Ideal.cmp .olt (broadcastTo S1024x100 blo broadcasts_S1x100_S1024x100 (ix2 r c)) (broadcastTo S1024x100 t broadcasts_S1024x1_S1024x100 (ix2 r c)))
      (Ideal.cmp .ole (broadcastTo S1024x100 t broadcasts_S1024x1_S1024x100 (ix2 r c)) (broadcastTo S1024x100 bhi broadcasts_S1x100_S1024x100 (ix2 r c))) = 1#1
    then u (ix2 r c) else Ideal.ofBits .f32 0x00000000#32) * Ideal.ofBits .bf16 0x3F80#16 = _
  rw [Ideal.ofBits_one_bf16, mul_one, Ideal.ofBits_zero_f32, hu, broadcast_row (by decide), broadcast_row (by decide), broadcast_col (by decide)]
  refine if_congr ?_ rfl rfl
  rw [← h c]
  show BitVec.ofBool (decide _) &&& BitVec.ofBool (decide _) = 1#1 ↔ _
  by_cases h1 : blo (ix2 0 c) < t (ix2 r 0) <;> by_cases h2 : t (ix2 r 0) ≤ bhi (ix2 0 c) <;> simp [h1, h2]

end Real

/-! ## The kernel's small tables -/

/-- The biases less the log widths. -/
theorem pay3_apply (b : Vec Ideal S1x101 .f32) (bt : Vec Ideal S26x100 .f32) (d : Fin 26) (c : Fin 100) :
    k0_pay3 b bt (ix2 d c) = bt (ix2 d c) - Ideal.log (b (ix2 0 c.succ) - b (ix2 0 c.castSucc)) := by
  unfold k0_pay3 k0_pay2
  simp only [shapeCast_self]
  refine congrArg₂ (· - ·) rfl ((broadcast_row (by decide) _ _ d c).trans ?_)
  exact congrArg Ideal.log (congrArg₂ (· - ·) (slice_at 0 1 b _ 0 c 0 c.succ rfl (Nat.add_comm _ _)) (slice_at 0 0 b _ 0 c 0 c.castSucc rfl (Nat.zero_add _).symm))

theorem iota_word : ∀ (k : Fin 100), (IntOp.cmpi .eq (BitVec.ofNat 32 k.val) 0#32 = 1#1 ↔ k.val = 0)
    ∧ (IntOp.cmpi .eq (BitVec.ofNat 32 k.val) 99#32 = 1#1 ↔ k.val = 99) := by decide +kernel

/-- The lower ends of the bins. -/
theorem pay4_apply (b : Vec Ideal S1x101 .f32) (c : Fin 100) :
    k0_pay4 b (ix2 0 c) = if c.val = 0 then Ideal.ofBits .f32 0xFF7FC99E#32 else b (ix2 0 c.castSucc) := by
  unfold k0_pay4 k0_pay2
  simp only [shapeCast_self]
  show (if IntOp.cmpi .eq (iota .tc S1x100 32 [1] iota_S1x100_d1_w32 (ix2 0 c)) 0#32 = 1#1 then _ else _) = _
  rw [iota_single_apply]
  exact if_congr (iota_word c).1 rfl (slice_at 0 0 b _ 0 c 0 c.castSucc rfl (Nat.zero_add _).symm)

/-- The upper ends of the bins. -/
theorem pay5_apply (b : Vec Ideal S1x101 .f32) (c : Fin 100) :
    k0_pay5 b (ix2 0 c) = if c.val = 99 then Ideal.ofBits .f32 0x7F7FC99E#32 else b (ix2 0 c.succ) := by
  unfold k0_pay5 k0_pay2
  simp only [shapeCast_self]
  show (if IntOp.cmpi .eq (iota .tc S1x100 32 [1] iota_S1x100_d1_w32 (ix2 0 c)) 99#32 = 1#1 then _ else _) = _
  rw [iota_single_apply]
  exact if_congr (iota_word c).2 rfl (slice_at 0 1 b _ 0 c 0 c.succ rfl (Nat.add_comm _ _))

end Cert.KernelIdeal.Clean

end
-- ==== Proof.Ideal.PointValue.lean ====
/-
  What one grid point computes, over the extended reals: when the blocks it reads hold reals, its log densities are the real
  ones and its share of the loss is the sum of its rows' losses over the number of rows.
-/
module

public import proofs.«01_k».proof.Proof.Ideal.RowValue
public import Idealize.ShloMosaic.PureOps.IdealRules

@[expose] public section

noncomputable section

namespace Cert.KernelIdeal.Clean

open Cert.KernelIdeal Cert.KernelIdeal.Gen Idealize.ShloMosaic Idealize.ShloMosaic.ValueIdx Cert.LogDensity
open scoped BigOperators

/-- The weights of one column, read from all of them. -/
theorem wsl_apply (d : Fin 26) (W : Vec Ideal S26x64x100 .f32) (k : Fin 64) (c : Fin 100) : wsl d W (ix3 0 k c) = W (ix3 d k c) := by
  refine congrArg W (funext fun a => Fin.ext ?_)
  match a with
  | ⟨0, _⟩ => rfl
  | ⟨1, _⟩ => show 0 + 1 * k.val = k.val; omega
  | ⟨2, _⟩ => show 0 + 1 * c.val = c.val; omega

/-- One column of the targets, read from all of them. -/
theorem tcol_apply (d : Fin 26) (T : Vec Ideal S1024x26 .f32) (r : Fin 1024) : tcol d T (ix2 r 0) = T (ix2 r d) := by
  refine congrArg T (funext fun a => Fin.ext ?_)
  match a with
  | ⟨0, _⟩ => show 0 + 1 * r.val = r.val; omega
  | ⟨1, _⟩ => rfl

/-- The lane a column keeps, as a column. -/
theorem lane_apply (d : Fin 26) (x : FVec Ideal S1024x128 .f32) (r : Fin 1024) :
    lane d x (ix2 r 0) = x (ix2 r ⟨d.val, lt_trans d.isLt (by decide)⟩) :=
  slice_at 0 d.val x _ r 0 r _ (Nat.zero_add _).symm rfl

/-- A column to store, at a row. -/
theorem colOf_apply (x : FVec Ideal S1024x1 .f32) (r : Fin 1024) : colOf x (ix3 0 r 0) = x (ix2 r 0) :=
  cast_lead x _ r 0

theorem colIdx_at (r : Fin 1024) (d : Fin 26) : colIdx (ix3 0 r d) = ix3 0 r 0 := by
  funext a
  match a with
  | ⟨0, _⟩ => rfl
  | ⟨1, _⟩ => rfl
  | ⟨2, _⟩ => rfl

/-- A sum along the columns, as a column. -/
theorem rowsum26 (x : FVec Ideal S1024x26 .f32) (r : Fin 1024) :
    shapeCast S1024x1 (multiReduction .add [1] S1024 x 0x00000000#32 reduces_S1024x26_S1024 (.inl rfl) rfl)
      shapeCasts_S1024_S1024x1 (ix2 r 0) = ∑ d : Fin 26, x (ix2 r d) := by
  refine (cast_col _ _ r).trans ?_
  refine (Ideal.multiReduction_add_single x _ _ _ _ (ix1 r)).trans ?_
  refine Finset.sum_congr rfl fun k _ => congrArg x ?_
  funext a
  match a with
  | ⟨0, _⟩ => rfl
  | ⟨1, _⟩ => rfl

/-- A sum down the rows. -/
theorem colsum (x : FVec Ideal S1024x1 .f32) :
    shapeCast S1x1 (multiReduction .add [0] S1 x 0x00000000#32 reduces_S1024x1_S1 (.inl rfl) rfl)
      shapeCasts_S1_S1x1 (ix2 0 0) = ∑ r : Fin 1024, x (ix2 r 0) := by
  refine (cast_col _ _ 0).trans ?_
  refine (Ideal.multiReduction_add_single x _ _ _ _ (ix1 0)).trans ?_
  refine Finset.sum_congr rfl fun k _ => congrArg x ?_
  funext a
  match a with
  | ⟨0, _⟩ => rfl
  | ⟨1, _⟩ => rfl

/-- The mask. -/
theorem pay272_apply (T : Vec Ideal S1024x26 .f32) (r : Fin 1024) (d : Fin 26) :
    k0_pay272 T (ix2 r d) = if T (ix2 r d) = 0 then 0 else 1 := by
  show ((((BitVec.ofBool (decide (T (ix2 r d) ≠ Ideal.ofBits .f32 0x00000000#32))).setWidth 32).toInt : ℝ) : EReal) = _
  rw [Ideal.ofBits_zero_f32]
  by_cases h : T (ix2 r d) = 0
  · rw [if_pos h, decide_eq_false (not_not.2 h)]; simp
  · rw [if_neg h, decide_eq_true h]; simp

/-- The masked shares of the columns. -/
theorem pay273_apply (a0 a1 a2 : Vec Ideal S1x1024x26 .f32) (T : Vec Ideal S1024x26 .f32) (r : Fin 1024) (d : Fin 26) :
    k0_pay273 a0 a1 a2 T (ix2 r d)
      = (Ideal.ofBits .f32 0x3DCCCCCD#32 * Ideal.div (a1 (ix3 0 r d) * ((100 / 99 : ℝ) : EReal)) (a2 (ix3 0 r d)) - a0 (ix3 0 r d))
        * (if T (ix2 r d) = 0 then 0 else 1) := by
  have e : ∀ a : Vec Ideal S1x1024x26 .f32, shapeCast S1024x26 a shapeCasts_S1x1024x26_S1024x26 (ix2 r d) = a (ix3 0 r d) :=
    fun a => cast_drop a _ r d
  rw [← e a0, ← e a1, ← e a2, ← pay272_apply]
  rfl

/-- The point's share of the loss, in every lane. -/
theorem pay274_apply (mask x : FVec Ideal S1024x26 .f32) (l : Fin 128) :
    k0_pay1 (k0_pay274 mask x) (ix3 0 0 l)
      = (∑ r : Fin 1024, Ideal.div (∑ d : Fin 26, x (ix2 r d)) (max (∑ d : Fin 26, mask (ix2 r d)) 1)) * ((16384⁻¹ : ℝ) : EReal) := by
  refine (cast_lead (k0_pay274 mask x) shapeCasts_S1x128_S1x1x128 0 l).trans ?_
  unfold k0_pay274
  refine (broadcastTo_apply _ _ (ix2 0 l) (ix2 0 0) fun a => match a with
    | ⟨0, _⟩ => (if_pos rfl).symm
    | ⟨1, _⟩ => (if_pos rfl).symm).trans ?_
  simp only [shapeCast_self]
  refine congrArg₂ (· * ·) ((colsum _).trans ?_) word_inv_16384
  refine Finset.sum_congr rfl fun r _ => ?_
  refine congrArg₂ Ideal.div (rowsum26 x r) ?_
  exact congrArg₂ max (rowsum26 mask r) Ideal.ofBits_one_f32

section Real

variable {s : Vec Ideal S1024x64 .f32} {T : Vec Ideal S1024x26 .f32} {W : Vec Ideal S26x64x100 .f32} {bt : Vec Ideal S26x100 .f32}
  {b : Vec Ideal S1x101 .f32}
variable {σ : Fin 1024 → Fin 64 → ℝ} {θ : Fin 1024 → Fin 26 → ℝ} {ω : Fin 100 → Fin 26 → Fin 64 → ℝ} {η : Fin 100 → Fin 26 → ℝ}
  {β : Fin 101 → ℝ}
variable (hs : ∀ r k, s (ix2 r k) = (σ r k : EReal)) (hW : ∀ d k c, W (ix3 d k c) = (ω c d k : EReal))
  (hbt : ∀ d c, bt (ix2 d c) = (η c d : EReal)) (hb : ∀ i, b (ix2 0 i) = (β i : EReal)) (hβ : StrictMono β)

include hs hW hbt hb hβ in
/-- A row's entries in a column are the real ones. -/
theorem U_real (d : Fin 26) (r : Fin 1024) (c : Fin 100) :
    U d s (k0_pay3 b bt) (wsl d W) (ix2 r c) = (ent (σ r) ω η β d c : EReal) := by
  rw [U_apply, pay3_apply, hbt, hb, hb, ← EReal.coe_sub, log_coe (sub_pos.2 (hβ Fin.castSucc_lt_succ)), ← EReal.coe_sub]
  unfold ent
  rw [EReal.coe_add]
  refine congrArg (· + _) ?_
  rw [← coe_sum]
  exact Finset.sum_congr rfl fun k _ => by rw [hs, wsl_apply, hW, EReal.coe_mul]

variable (hT : ∀ r d, T (ix2 r d) = (θ r d : EReal))
  (hlo : ∀ r d, Ideal.ofBits .f32 0xFF7FC99E#32 < (θ r d : EReal)) (hhi : ∀ r d, (θ r d : EReal) ≤ Ideal.ofBits .f32 0x7F7FC99E#32)
include hs hW hbt hb hβ hT hlo hhi

/-- The first plane: the target bin's entry less the log of the sum of exponentials. -/
theorem plane0_real (r : Fin 1024) (d : Fin 26) : accPlane 0 s (k0_pay3 b bt) (k0_pay4 b) (k0_pay5 b) T W (ix3 0 r d)
    = ((ent (σ r) ω η β d (bin β (θ r d)) - L (ent (σ r) ω η β d) : ℝ) : EReal) := by
  have hU := U_real hs hW hbt hb hβ d r
  have hsel : ∀ c : Fin 100, (k0_pay4 b (ix2 0 c) < tcol d T (ix2 r 0) ∧ tcol d T (ix2 r 0) ≤ k0_pay5 b (ix2 0 c)) ↔ c = bin β (θ r d) := fun c => by
    rw [pay4_apply, pay5_apply, tcol_apply, hT, hb, hb]
    exact select_iff hβ (θ r d) (hlo r d) (hhi r d) c
  show accCol 0 d s _ _ _ T W (colIdx (ix3 0 r d)) = _
  rw [colIdx_at]
  refine (colOf_apply _ r).trans ?_
  refine (congrArg₂ (· - ·) ((lane_apply d _ r).trans (selu_real hU _ _ _ _ hsel _)) (lz_real hU)).trans ?_
  exact (EReal.coe_sub _ _).symm

omit hT hlo hhi in
/-- The second plane: the sum of the squared differences. -/
theorem plane1_real (r : Fin 1024) (d : Fin 26) : accPlane 1 s (k0_pay3 b bt) (k0_pay4 b) (k0_pay5 b) T W (ix3 0 r d)
    = (sqd (ent (σ r) ω η β d) : EReal) := by
  show accCol 1 d s _ _ _ T W (colIdx (ix3 0 r d)) = _
  rw [colIdx_at]
  exact (colOf_apply _ r).trans ((lane_apply d _ r).trans (sdq_real (U_real hs hW hbt hb hβ d r) _))

omit hT hlo hhi in
/-- The third plane: the sum of the absolute values. -/
theorem plane2_real (r : Fin 1024) (d : Fin 26) : accPlane 2 s (k0_pay3 b bt) (k0_pay4 b) (k0_pay5 b) T W (ix3 0 r d)
    = (sab (ent (σ r) ω η β d) : EReal) := by
  show accCol 2 d s _ _ _ T W (colIdx (ix3 0 r d)) = _
  rw [colIdx_at]
  exact (colOf_apply _ r).trans ((lane_apply d _ r).trans (salp_real (U_real hs hW hbt hb hβ d r) _))

/-- The point's share of the loss. -/
theorem loss_real (l : Fin 128) :
    lossBlk s T W bt b (ix3 0 0 l) = (∑ r : Fin 1024, per (ent (σ r) ω η β) β (θ r)) * ((16384⁻¹ : ℝ) : EReal) := by
  unfold lossBlk
  rw [pay274_apply]
  refine congrArg (· * _) (Finset.sum_congr rfl fun r _ => ?_)
  unfold per
  refine congrArg₂ Ideal.div (Finset.sum_congr rfl fun d _ => ?_) (congrArg (max · 1) (Finset.sum_congr rfl fun d _ => ?_))
  · rw [pay273_apply, plane0_real hs hW hbt hb hβ hT hlo hhi, plane1_real hs hW hbt hb hβ, plane2_real hs hW hbt hb hβ, hT]
    rfl
  · rw [pay272_apply, hT]
    rfl

end Real

end Cert.KernelIdeal.Clean

end
-- ==== Proof.Ideal.Results.lean ====
/-
  The two results over the extended reals: when the arguments hold reals, the array of log densities holds the real ones
  and the loss is the rows' losses added up, over the number of rows.
-/
module

public import proofs.«01_k».proof.Proof.Ideal.Launch
public import proofs.«01_k».proof.Proof.Ideal.PointValue

@[expose] public section

set_option maxRecDepth 100000

noncomputable section

namespace Cert.KernelIdeal.Clean

open Cert.KernelIdeal Cert.KernelIdeal.Gen Idealize.ShloMosaic Idealize.ShloMosaic.TcCoe Idealize.ShloMosaic.Tactic
open Idealize.ShloMosaic.ValueIdx Cert.LogDensity
open Idealize.ShloMosaic.Pipeline (Dat Cfg Window BodyObligation cellOf)
open scoped BigOperators

variable (m : (ℓ : Loc nD τ sig) → Buf (Elt Ideal) ℓ) (c : Dev nD)

/-! ## The arrays the host lines make -/

theorem host_weights : (V m c main_v0 : Vec Ideal S26x64x100 .f32)
    = transpose S26x64x100 [1, 2, 0] (m ((c.tc : Thread nD τ).loc main_arg2) : Vec Ideal S100x26x64 .f32) transposes_S100x26x64_S26x64x100_1_2_0 := by
  show StableHlo.after hostOps0 (fun b => m (c, b)) (Proc.devRef .tc main_v0) = _
  after_results

theorem host_biases : (V m c main_v1 : Vec Ideal S26x100 .f32)
    = transpose S26x100 [1, 0] (m ((c.tc : Thread nD τ).loc main_arg3) : Vec Ideal S100x26 .f32) transposes_S100x26_S26x100_1_0 := by
  show StableHlo.after hostOps0 (fun b => m (c, b)) (Proc.devRef .tc main_v1) = _
  after_results

theorem host_bins : (V m c main_v2 : Vec Ideal S1x101 .f32)
    = shapeCast S1x101 (m ((c.tc : Thread nD τ).loc main_arg4) : Vec Ideal S101 .f32) shapeCasts_S101_S1x101 := by
  show StableHlo.after hostOps0 (fun b => m (c, b)) (Proc.devRef .tc main_v2) = _
  after_results
  rfl

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel

/-- The row of the arguments that row `r` of point `t` is. -/
def rowOf (t : Fin cfg0.N) (r : Fin 1024) : Fin 16384 :=
  ⟨1024 * t.val + r.val, by have h : t.val < grid0.N := t.isLt; rw [N_0] at h; have := r.isLt; omega⟩

/-! ## The blocks -/

theorem sB_apply (t : Fin cfg0.N) (r : Fin 1024) (k : Fin 64) :
    sB m c t (ix2 r k) = (m ((c.tc : Thread nD τ).loc main_arg0) : Vec Ideal S16384x64 .f32) (ix2 (rowOf t r) k) := by
  obtain ⟨i0, i1⟩ := index0 t
  show V m c main_arg0 ((win0_0.rect t).emb (ix2 r k)) = _
  rw [V_main_arg0]
  refine congrArg (m ((c.tc : Thread nD τ).loc main_arg0) : Vec Ideal S16384x64 .f32) (funext fun a => Fin.ext ?_)
  match a with
  | ⟨0, _⟩ => show win0_0.index t 0 * 1024 + 1 * r.val = 1024 * t.val + r.val; rw [i0]; omega
  | ⟨1, _⟩ => show win0_0.index t 1 * 64 + 1 * k.val = k.val; rw [i1]; omega

theorem tB_apply (t : Fin cfg0.N) (r : Fin 1024) (d : Fin 26) :
    tB m c t (ix2 r d) = (m ((c.tc : Thread nD τ).loc main_arg1) : Vec Ideal S16384x26 .f32) (ix2 (rowOf t r) d) := by
  obtain ⟨i0, i1⟩ := index1 t
  show V m c main_arg1 ((win0_1.rect t).emb (ix2 r d)) = _
  rw [V_main_arg1]
  refine congrArg (m ((c.tc : Thread nD τ).loc main_arg1) : Vec Ideal S16384x26 .f32) (funext fun a => Fin.ext ?_)
  match a with
  | ⟨0, _⟩ => show win0_1.index t 0 * 1024 + 1 * r.val = 1024 * t.val + r.val; rw [i0]; omega
  | ⟨1, _⟩ => show win0_1.index t 1 * 26 + 1 * d.val = d.val; rw [i1]; omega

theorem wB_apply (t : Fin cfg0.N) (d : Fin 26) (k : Fin 64) (j : Fin 100) :
    wB m c t (ix3 d k j) = (m ((c.tc : Thread nD τ).loc main_arg2) : Vec Ideal S100x26x64 .f32) (ix3 j d k) := by
  obtain ⟨i0, i1, i2⟩ := index2 t
  have e : (win0_2.rect t).emb (ix3 d k j) = (ix3 d k j : S26x64x100.Idx) := by
    funext a
    apply Fin.ext
    match a with
    | ⟨0, _⟩ => show win0_2.index t 0 * 26 + 1 * d.val = d.val; rw [i0]; omega
    | ⟨1, _⟩ => show win0_2.index t 1 * 64 + 1 * k.val = k.val; rw [i1]; omega
    | ⟨2, _⟩ => show win0_2.index t 2 * 100 + 1 * j.val = j.val; rw [i2]; omega
  show (V m c main_v0 : Vec Ideal S26x64x100 .f32) ((win0_2.rect t).emb (ix3 d k j)) = _
  rw [e, host_weights]
  exact transpose_apply _ _ _ _ _ (fun b => match b with | ⟨0, _⟩ => rfl | ⟨1, _⟩ => rfl | ⟨2, _⟩ => rfl)

theorem btB_apply (t : Fin cfg0.N) (d : Fin 26) (j : Fin 100) :
    btB m c t (ix2 d j) = (m ((c.tc : Thread nD τ).loc main_arg3) : Vec Ideal S100x26 .f32) (ix2 j d) := by
  obtain ⟨i0, i1⟩ := index3 t
  have e : (win0_3.rect t).emb (ix2 d j) = (ix2 d j : S26x100.Idx) := by
    funext a
    apply Fin.ext
    match a with
    | ⟨0, _⟩ => show win0_3.index t 0 * 26 + 1 * d.val = d.val; rw [i0]; omega
    | ⟨1, _⟩ => show win0_3.index t 1 * 100 + 1 * j.val = j.val; rw [i1]; omega
  show (V m c main_v1 : Vec Ideal S26x100 .f32) ((win0_3.rect t).emb (ix2 d j)) = _
  rw [e, host_biases]
  exact transpose_apply _ _ _ _ _ (fun b => match b with | ⟨0, _⟩ => rfl | ⟨1, _⟩ => rfl)

theorem bB_apply (t : Fin cfg0.N) (j : Fin 101) :
    bB m c t (ix2 0 j) = (m ((c.tc : Thread nD τ).loc main_arg4) : Vec Ideal S101 .f32) (ix1 j) := by
  obtain ⟨i0, i1⟩ := index4 t
  have e : (win0_4.rect t).emb (ix2 (0 : Fin 1) j) = (ix2 0 j : S1x101.Idx) := by
    funext a
    apply Fin.ext
    match a with
    | ⟨0, _⟩ => show win0_4.index t 0 * 1 + 1 * 0 = 0; rw [i0]
    | ⟨1, _⟩ => show win0_4.index t 1 * 101 + 1 * j.val = j.val; rw [i1]; omega
  show (V m c main_v2 : Vec Ideal S1x101 .f32) ((win0_4.rect t).emb (ix2 0 j)) = _
  rw [e, host_bins]
  refine shapeCast_apply _ _ _ (ix1 j) ?_
  rw [Shape.rowMajor_val_one, Shape.rowMajor_val_two]
  show j.val = 0 * 101 + j.val
  omega

/-! ## The results -/

section
variable {σ : Fin 16384 → Fin 64 → ℝ} {θ : Fin 16384 → Fin 26 → ℝ} {ω : Fin 100 → Fin 26 → Fin 64 → ℝ} {η : Fin 100 → Fin 26 → ℝ} {β : Fin 101 → ℝ}
variable (a0 : ∀ r k, (m ((c.tc : Thread nD τ).loc main_arg0) : Vec Ideal S16384x64 .f32) (ix2 r k) = (σ r k : EReal))
  (a1 : ∀ r d, (m ((c.tc : Thread nD τ).loc main_arg1) : Vec Ideal S16384x26 .f32) (ix2 r d) = (θ r d : EReal))
  (a2 : ∀ j d k, (m ((c.tc : Thread nD τ).loc main_arg2) : Vec Ideal S100x26x64 .f32) (ix3 j d k) = (ω j d k : EReal))
  (a3 : ∀ j d, (m ((c.tc : Thread nD τ).loc main_arg3) : Vec Ideal S100x26 .f32) (ix2 j d) = (η j d : EReal))
  (a4 : ∀ i, (m ((c.tc : Thread nD τ).loc main_arg4) : Vec Ideal S101 .f32) (ix1 i) = (β i : EReal))
  (hβ : StrictMono β)

include a0 a2 a3 a4 hβ in
/-- The array of log densities, at an element. -/
theorem Gres_apply (r : Fin 16384) (d : Fin 26) (j : Fin 100) :
    (Gres m c : Vec Ideal S16384x26x100 .f32) (ix3 r d j) = ((ent (σ r) ω η β d j - L (ent (σ r) ω η β d) : ℝ) : EReal) := by
  have hr : rowOf (rowPt (ix3 r d j)) ⟨r.val % 1024, Nat.mod_lt _ (by decide)⟩ = r :=
    Fin.ext (by show 1024 * (r.val / 1024) + r.val % 1024 = r.val; omega)
  show shapeCast S1024x1x100 (Lat m c (rowPt (ix3 r d j)) d) (by decide : S1024x100.ShapeCasts S1024x1x100) (inPiece (ix3 r d j)) = _
  generalize rowPt (ix3 r d j) = t at hr ⊢
  refine (shapeCast_apply _ _ _ (ix2 ⟨r.val % 1024, Nat.mod_lt _ (by decide)⟩ j) ?_).trans ?_
  · rw [Shape.rowMajor_val_two, Shape.rowMajor_val_three]
    show r.val % 1024 * 100 + j.val = (r.val % 1024 * 1 + 0) * 100 + j.val
    omega
  · have hU := fun j' => U_real (σ := fun i => σ (rowOf t i)) (ω := ω) (η := η) (β := β) (fun i k => (sB_apply m c t i k).trans (a0 _ k))
      (fun d k j => (wB_apply m c t d k j).trans (a2 j d k)) (fun d j => (btB_apply m c t d j).trans (a3 j d))
      (fun i => (bB_apply m c t i).trans (a4 i)) hβ d ⟨r.val % 1024, Nat.mod_lt _ (by decide)⟩ j'
    refine (logp_real hU j).trans ?_
    rw [hr]

include a0 a1 a2 a3 a4 hβ in
/-- The loss. -/
theorem lossRes_apply (hlo : ∀ r d, Ideal.ofBits .f32 0xFF7FC99E#32 < (θ r d : EReal)) (hhi : ∀ r d, (θ r d : EReal) ≤ Ideal.ofBits .f32 0x7F7FC99E#32)
    (i : S_.Idx) : (lossRes m c : Vec Ideal S_ .f32) i
      = (∑ r : Fin 16384, per (ent (σ r) ω η β) β (θ r)) * ((16384⁻¹ : ℝ) : EReal) := by
  have hb : ∀ t : Fin 16, shapeCast S16 (extractStridedSlice S16x1x1 ![0, 0, 0] (Lres m c : Vec Ideal S16x1x128 .f32) slices_S16x1x128_S16x1x1_0_0_0)
      shapeCasts_S16x1x1_S16 (ix1 t)
      = (∑ r : Fin 1024, per (ent (σ ⟨1024 * t.val + r.val, by omega⟩) ω η β) β (θ ⟨1024 * t.val + r.val, by omega⟩)) * ((16384⁻¹ : ℝ) : EReal) := by
    intro t
    refine (shapeCast_apply _ _ _ (ix3 t 0 0) ?_).trans ?_
    · rw [Shape.rowMajor_val_one, Shape.rowMajor_val_three]
      show (t.val * 1 + 0) * 1 + 0 = t.val
      omega
    refine (extractStridedSlice_apply ![0, 0, 0] (Lres m c : Vec Ideal S16x1x128 .f32) slices_S16x1x128_S16x1x1_0_0_0 (ix3 t 0 0) (ix3 t 0 0) (fun a => match a with
      | ⟨0, _⟩ => (Nat.zero_add _).symm | ⟨1, _⟩ => (Nat.zero_add _).symm | ⟨2, _⟩ => (Nat.zero_add _).symm)).trans ?_
    have ht : t.val < grid0.N := by rw [N_0]; exact t.isLt
    exact loss_real (σ := fun i => σ (rowOf ⟨t.val, ht⟩ i)) (ω := ω) (η := η) (β := β) (θ := fun i => θ (rowOf ⟨t.val, ht⟩ i))
      (fun i k => (sB_apply m c _ i k).trans (a0 _ k))
      (fun d k j => (wB_apply m c _ d k j).trans (a2 j d k)) (fun d j => (btB_apply m c _ d j).trans (a3 j d))
      (fun i => (bB_apply m c _ i).trans (a4 i)) hβ (fun i d => (tB_apply m c _ i d).trans (a1 _ d)) (fun i d => hlo _ d) (fun i d => hhi _ d) 0
  unfold lossRes
  simp only [Host.reduceAdd, Ideal.hostReduceAdd_def]
  refine (Ideal.hostReduceAdd_total _ (fun b => b.elim0) _ _ i).trans ?_
  refine (congrArg₂ (· + ·) Ideal.ofBits_zero_f32 ((sum_rank1 _).trans (Finset.sum_congr rfl fun t _ => hb t))).trans ?_
  rw [zero_add, mul_sum_right _ _ (by norm_num), sum_blocks]
end

end Cert.KernelIdeal.Clean

end
-- ==== Proof.Math.RefRow.lean ====
/-
  The reference's log densities, over the extended reals: on reals they are a row's entries less the log of the sum of their
  exponentials.
-/
module

public import proofs.«01_k».proof.Proof.Gen.ReferenceIdeal.Read
public import proofs.«01_k».proof.Proof.Math.Spec
public import proofs.«01_k».proof.Proof.Math.Words

@[expose] public section

noncomputable section

namespace Cert.ReferenceIdeal.Values

open Cert.ReferenceIdeal Cert.ReferenceIdeal.Gen Cert.ReferenceIdeal.Read Idealize.ShloMosaic Idealize.ShloMosaic.ValueIdx Cert.LogDensity
open scoped BigOperators

/-- An array of extended reals. -/
abbrev Arr (s : Shape) : Type := (⟨s, .f32⟩ : BufTy).Contents (Elt Ideal)

variable {x0 : Arr S16384x64} {x2 : Arr S100x26x64} {x3 : Arr S100x26} {x4 : Arr S101}
variable {σ : Fin 16384 → Fin 64 → ℝ} {ω : Fin 100 → Fin 26 → Fin 64 → ℝ} {η : Fin 100 → Fin 26 → ℝ} {β : Fin 101 → ℝ}
variable (h0 : ∀ r k, x0 (ix2 r k) = (σ r k : EReal)) (h2 : ∀ c d k, x2 (ix3 c d k) = (ω c d k : EReal))
  (h3 : ∀ c d, x3 (ix2 c d) = (η c d : EReal)) (h4 : ∀ i, x4 (ix1 i) = (β i : EReal)) (hβ : StrictMono β)

/-- A logit. -/
def lg (σ : Fin 64 → ℝ) (ω : Fin 100 → Fin 26 → Fin 64 → ℝ) (η : Fin 100 → Fin 26 → ℝ) (d : Fin 26) (c : Fin 100) : ℝ :=
  (∑ m, σ m * ω c d m) + η c d

/-- A log width. -/
def wd (β : Fin 101 → ℝ) (c : Fin 100) : ℝ := Real.log (β c.succ - β c.castSucc)

include h0 h2 h3 in
/-- The logits are real. -/
theorem logits (r : Fin 16384) (d : Fin 26) (c : Fin 100) : val_main_v8 x0 x2 x3 (ix3 r d c) = (lg (σ r) ω η d c : EReal) := by
  rw [val_main_v8_apply, val_main_v4_apply, val_main_v3_apply, val_main_v7_apply, val_main_v6_apply, val_main_v5_apply]
  unfold lg
  rw [EReal.coe_add, ← coe_sum]
  refine congrArg₂ (· + ·) (Finset.sum_congr rfl fun k _ => ?_) ?_
  · rw [eq_ix3 (lidx_main_v3 _ k), eq_ix2 (ridx_main_v3 _ k)]
    refine (congrArg₂ (· * ·) (h2 _ _ _) (h0 _ _)).trans ?_
    rw [← EReal.coe_mul, mul_comm]
    rfl
  · rw [eq_ix2 (idx_main_v5 _)]
    exact h3 c d

include h4 hβ in
/-- The log widths are real. -/
theorem widths (c : Fin 100) : val_main_v10 x4 (ix1 c) = (wd β c : EReal) := by
  rw [val_main_v10_apply, val_main_v2_apply, val_main_v0_apply, val_main_v1_apply, eq_ix1 (idx_main_v0 _), eq_ix1 (idx_main_v1 _)]
  have e0 : (idx_main_v0 (ix1 c)) 0 = c.succ := Fin.ext (Nat.add_comm 1 c.val)
  have e1 : (idx_main_v1 (ix1 c)) 0 = c.castSucc := rfl
  rw [e0, e1]
  show Ideal.log (x4 (ix1 c.succ) - x4 (ix1 c.castSucc)) = _
  rw [h4, h4, ← EReal.coe_sub, log_coe (sub_pos.2 (hβ Fin.castSucc_lt_succ))]
  rfl

include h0 h2 h3 in
/-- The row's maximum, as the reference subtracts it, is some real. -/
theorem row_max (r : Fin 16384) (d : Fin 26) : ∃ μ : ℝ, ∀ c, val_main_call0_v4 x0 x2 x3 (ix3 r d c) = (μ : EReal) := by
  obtain ⟨μ, hμ⟩ := fold_max_real (fun c => val_main_v8 x0 x2 x3 (ix3 r d c)) (lg (σ r) ω η d) (logits h0 h2 h3 r d)
  refine ⟨μ, fun c => ?_⟩
  rw [val_main_call0_v4_apply, val_main_call0_v3_apply, val_main_call0_v2_apply, eq_ix2 (idx_main_call0_v3 _)]
  have e : val_main_call0_v0 x0 x2 x3 (ix2 r d) = (μ : EReal) := by
    unfold val_main_call0_v0
    refine (Host.reduce_eq_fold_single (FloatOps.maximumf (F := Ideal) (φ := .f32)) _ _ reducesTo_S16384x26x100_S16384x26_d2 (by decide) h_S_ (ix2 r d)).trans ?_
    rw [← hμ]
    show Finset.univ.fold max (Ideal.ofBits .f32 0xFF800000#32) _ = _
    rw [word_bot]
    refine congrArg (Finset.fold max ⊥ · Finset.univ) (funext fun k => congrArg (val_main_v8 x0 x2 x3) ?_)
    funext a
    match a with
    | ⟨0, _⟩ => rfl
    | ⟨1, _⟩ => rfl
    | ⟨2, _⟩ => rfl
  have e1 : ∀ i, val_main_call0_v1 (F := Ideal) i = (⊥ : EReal) := fun i => (val_main_call0_v1_apply i).trans word_bot
  exact (congrArg₂ max (e1 _) e).trans (max_eq_right bot_le)

include h0 h2 h3 h4 hβ

/-- The reference's log densities. -/
theorem logp_apply (r : Fin 16384) (d : Fin 26) (c : Fin 100) :
    val_main_v19 x0 x2 x3 x4 (ix3 r d c) = ((ent (σ r) ω η β d c - L (ent (σ r) ω η β d) : ℝ) : EReal) := by
  obtain ⟨μ, hμ⟩ := row_max h0 h2 h3 r d
  have hc : ∀ c, val_main_call0_v5 x0 x2 x3 (ix3 r d c) = (lg (σ r) ω η d c : EReal) - (μ : EReal) := fun c =>
    congrArg₂ (· - ·) (logits h0 h2 h3 r d c) (hμ c)
  have hv : ∀ c, val_main_v13 x0 x2 x3 x4 (ix3 r d c) = ((lg (σ r) ω η d c : EReal) - (μ : EReal))
      - Ideal.log (∑ k, Ideal.exp ((lg (σ r) ω η d k : EReal) - (μ : EReal))) - (wd β c : EReal) := fun c => by
    rw [val_main_v13_apply, val_main_v9_apply, val_main_v12_apply, val_main_v11_apply, val_main_call0_v10_apply, val_main_call0_v9_apply,
      val_main_call0_v8_apply, val_main_call0_v7_apply, hc, val_main_call0_cst_1_apply]
    refine congrArg₂ (· - ·) (congrArg (_ - ·) (congrArg Ideal.log ?_)) ?_
    · show Ideal.ofBits .f32 0x00000000#32 + _ = _
      rw [Ideal.ofBits_zero_f32, zero_add]
      refine Finset.sum_congr rfl fun k _ => ?_
      rw [val_main_call0_v6_apply, eq_ix3 (idx_main_call0_v7 _ k)]
      exact congrArg Ideal.exp (hc k)
    · rw [eq_ix1 (idx_main_v11 _)]
      exact widths h4 hβ c
  have hs : val_main_v19 x0 x2 x3 x4 (ix3 r d c) = val_main_v13 x0 x2 x3 x4 (ix3 r d c)
      - Ideal.log (∑ k, Ideal.exp (val_main_v13 x0 x2 x3 x4 (ix3 r d k))) := by
    rw [val_main_v19_apply, val_main_v18_apply, val_main_v17_apply, val_main_v16_apply, val_main_v15_apply, val_main_cst_apply]
    refine congrArg (fun z : EReal => (val_main_v13 x0 x2 x3 x4 (ix3 r d c) : EReal) - Ideal.log z) ?_
    show Ideal.ofBits .f32 0x00000000#32 + _ = _
    rw [Ideal.ofBits_zero_f32, zero_add]
    refine Finset.sum_congr rfl fun k _ => ?_
    rw [val_main_v14_apply, eq_ix3 (idx_main_v15 _ k)]
    rfl
  have he : (fun k => lg (σ r) ω η d k - wd β k) = ent (σ r) ω η β d := funext fun k => add_sub_assoc _ _ _
  rw [hs, reference_row (lg (σ r) ω η d) (wd β) μ (fun c => val_main_v13 x0 x2 x3 x4 (ix3 r d c)) hv c, he]
  exact congrArg (fun f : Fin 100 → ℝ => ((f c - L (ent (σ r) ω η β d) : ℝ) : EReal)) he

end Cert.ReferenceIdeal.Values

end
-- ==== Proof.Math.RefLoss.lean ====
/-
  The reference's loss, over the extended reals: the bin it takes each target to lie in, the log density it reads there, the
  spikiness, the rows' losses and their mean.
-/
module

public import proofs.«01_k».proof.Proof.Math.RefRow
public import Idealize.ShloMosaic.Lib.ReduceAll
public import Idealize.ShloMosaic.Lib.IndicatorCount

@[expose] public section

noncomputable section

namespace Cert.ReferenceIdeal.Values

open Cert.ReferenceIdeal Cert.ReferenceIdeal.Gen Cert.ReferenceIdeal.Read Idealize.ShloMosaic Idealize.ShloMosaic.ValueIdx Cert.LogDensity
open scoped BigOperators

variable {x0 : Arr S16384x64} {x1 : Arr S16384x26} {x2 : Arr S100x26x64} {x3 : Arr S100x26} {x4 : Arr S101}
variable {σ : Fin 16384 → Fin 64 → ℝ} {θ : Fin 16384 → Fin 26 → ℝ} {ω : Fin 100 → Fin 26 → Fin 64 → ℝ} {η : Fin 100 → Fin 26 → ℝ}
  {β : Fin 101 → ℝ}

/-! ## The bin -/

/-- A bin's word passes the reference's index checks and reads back as the bin. -/
theorem bin_checks : ∀ k : Fin 100,
    Scalar.select (IntOp.cmpi .slt (BitVec.ofNat 32 k.val) 0#32) (IntOp.addi (BitVec.ofNat 32 k.val) 100#32) (BitVec.ofNat 32 k.val) = BitVec.ofNat 32 k.val
      ∧ IntOp.andi (IntOp.cmpi .sge (BitVec.ofNat 32 k.val) 0#32) (IntOp.cmpi .sle (BitVec.ofNat 32 k.val) 99#32) = 1#1
      ∧ min (BitVec.ofNat 32 k.val).toInt.toNat 99 = k.val := by
  decide +kernel

section Bin

variable (h1 : ∀ r d, x1 (ix2 r d) = (θ r d : EReal)) (h4 : ∀ i, x4 (ix1 i) = (β i : EReal)) (hβ : StrictMono β)

include h1 h4 in
/-- The count of the edges below the target. -/
theorem count_apply (r : Fin 16384) (d : Fin 26) : val_main_v38 x1 x4 (ix2 r d) = BitVec.ofNat 32 (below β (θ r d)) := by
  unfold val_main_v38
  refine (Host.reduce_eq_fold_single IntOp.addi _ _ reducesTo_S16384x26x101_S16384x26_d2 (by decide) h_S_ (ix2 r d)).trans ?_
  have e : ∀ k : Fin 101, (val_main_v37 x1 x4 ∘ (by decide : S16384x26x101.Reduces [2] S16384x26).lift (ix2 r d)) k
      = (val_main_v36 x1 x4 (ix3 r d k)).setWidth 32 := fun k => by
    refine congrArg (fun i => (val_main_v36 x1 x4 i).setWidth 32) (funext fun a => ?_)
    match a with
    | ⟨0, _⟩ => rfl
    | ⟨1, _⟩ => rfl
    | ⟨2, _⟩ => rfl
  refine (congrArg (fun f : Fin 101 → BitVec 32 => (Finset.univ : Finset (Fin 101)).fold IntOp.addi 0#32 f) (funext e)).trans ?_
  refine (IndicatorCount.fold_addi_setWidth_eq_card (fun k : Fin 101 => val_main_v36 x1 x4 (ix3 r d k)) Finset.univ).trans ?_
  unfold below
  refine congrArg (BitVec.ofNat 32) (congrArg Finset.card (Finset.filter_congr fun k _ => ?_))
  rw [val_main_v36_apply, val_main_v34_apply, val_main_v33_apply, val_main_v35_apply, val_main_v32_apply, eq_ix1 (idx_main_v33 _), eq_ix2 (idx_main_v32 _)]
  show BitVec.ofBool (decide (x4 (ix1 k) < x1 (ix2 r d))) = 1#1 ↔ _
  rw [h1, h4, ← EReal.coe_lt_coe_iff]
  by_cases h : (β k : EReal) < (θ r d : EReal) <;> simp [h]

/-- The first and the last edge, as scalars. -/
theorem edges (i : S_.Idx) : val_main_v42 x4 i = x4 (ix1 0) ∧ val_main_v47 x4 i = x4 (ix1 100) := by
  constructor
  · unfold val_main_v42
    refine (shapeCast_apply _ shapeCasts_S1_S_ i (ix1 0) (by decide +revert)).trans ?_
    rw [val_main_v41_apply, eq_ix1 (idx_main_v41 _)]
    rfl
  · unfold val_main_v47
    refine (shapeCast_apply _ shapeCasts_S1_S_ i (ix1 0) (by decide +revert)).trans ?_
    rw [val_main_v46_apply, eq_ix1 (idx_main_v46 _)]
    rfl

include h1 h4 hβ

/-- The target's bin, as a word. -/
theorem bin_word (r : Fin 16384) (d : Fin 26) : val_main_v51 x1 x4 (ix2 r d) = BitVec.ofNat 32 (bin β (θ r d)).val := by
  rw [← index_word hβ (θ r d) (val_main_v44 x1 x4 (ix2 r d)) (val_main_v49 x1 x4 (ix2 r d)) ?_ ?_, ← count_apply h1 h4 r d]
  · rw [val_main_v51_apply, val_main_call3_v2_apply, val_main_v50_apply, val_main_v45_apply, val_main_v40_apply, val_main_v39_apply,
      val_main_call1_v1_apply, val_main_call2_v1_apply, val_main_call3_v1_apply, val_main_call3_v4_apply]
    rfl
  · rw [val_main_v44_apply, val_main_v43_apply, (edges _).1]
    show BitVec.ofBool (decide (x1 (ix2 r d) ≤ x4 (ix1 0))) = 1#1 ↔ _
    rw [h1, h4, ← EReal.coe_le_coe_iff]
    by_cases h : (θ r d : EReal) ≤ (β 0 : EReal) <;> simp [h]
  · rw [val_main_v49_apply, val_main_v48_apply, (edges _).2]
    show BitVec.ofBool (decide (x4 (ix1 100) ≤ x1 (ix2 r d))) = 1#1 ↔ _
    rw [h1, h4, ← EReal.coe_le_coe_iff]
    by_cases h : (β 100 : EReal) ≤ (θ r d : EReal) <;> simp [h]

/-- The index the reference reads at. -/
theorem index_apply (r : Fin 16384) (d : Fin 26) : val_main_call4_v5 x1 x4 (ix4 r d 0 0) = BitVec.ofNat 32 (bin β (θ r d)).val := by
  have e : idx_main_call4_v5 (ix4 r d 0 0) = ix3 r d 0 := by
    funext a
    apply Fin.ext
    have := d.isLt
    match a with
    | ⟨0, _⟩ => show (((r.val * 26 + d.val) * 1 + 0) * 1 + 0) / 26 = r.val; omega
    | ⟨1, _⟩ => show (((r.val * 26 + d.val) * 1 + 0) * 1 + 0) / 1 % 26 = d.val; omega
    | ⟨2, _⟩ => rfl
  have e2 : val_main_v52 x1 x4 (ix3 r d 0) = BitVec.ofNat 32 (bin β (θ r d)).val := by
    rw [val_main_v52_apply, eq_ix2 (idx_main_v52 _)]
    exact bin_word h1 h4 hβ r d
  rw [val_main_call4_v5_apply, e, val_main_call4_v4_apply, val_main_call4_v1_apply, val_main_call4_v3_apply, e2]
  exact (bin_checks (bin β (θ r d))).1

/-- The index is in range. -/
theorem in_range (i : S16384x26x1.Idx) : val_main_call4_v12 x1 x4 i = 1#1 := by
  unfold val_main_call4_v12
  refine Host.reduce_andi_one _ _ _ _ _ rfl fun j => ?_
  have hj : j = ix4 (j 0) (j 1) 0 0 := by
    funext a
    match a with
    | ⟨0, _⟩ => rfl
    | ⟨1, _⟩ => rfl
    | ⟨2, h⟩ => exact Fin.ext (Nat.lt_one_iff.1 (j ⟨2, h⟩).isLt)
    | ⟨3, h⟩ => exact Fin.ext (Nat.lt_one_iff.1 (j ⟨3, h⟩).isLt)
  rw [val_main_call4_v11_apply, val_main_call4_v7_apply, val_main_call4_v10_apply, hj]
  have e := index_apply h1 h4 hβ (j 0) (j 1)
  refine (congrArg₂ (fun a b => IntOp.andi (IntOp.cmpi .sge a 0#32) (IntOp.cmpi .sle b 99#32)) e e).trans ?_
  exact (bin_checks _).2.1

/-- The element the reference reads. -/
theorem read_at (r : Fin 16384) (d : Fin 26) (x : Arr S16384x26x100) :
    Host.gather gather_S16384x26x100_S16384x26x1x1_S16384x26x1_n_2_01_01_2_3_111 x (val_main_call4_v5 x1 x4) (ix3 r d 0) = x (ix3 r d (bin β (θ r d))) := by
  refine congrArg x (funext fun a => Fin.ext ?_)
  match a with
  | ⟨0, _⟩ => show 0 + r.val + 0 = r.val; omega
  | ⟨1, _⟩ => show 0 + d.val + 0 = d.val; omega
  | ⟨2, _⟩ =>
    have e : gather_S16384x26x100_S16384x26x1x1_S16384x26x1_n_2_01_01_2_3_111.siIdx (ix3 r d 0) ⟨0, by decide⟩ = ix4 r d 0 0 := by
      funext b
      match b with
      | ⟨0, _⟩ => rfl
      | ⟨1, _⟩ => rfl
      | ⟨2, _⟩ => rfl
      | ⟨3, _⟩ => rfl
    show min (val_main_call4_v5 x1 x4 (gather_S16384x26x100_S16384x26x1x1_S16384x26x1_n_2_01_01_2_3_111.siIdx (ix3 r d 0) ⟨0, by decide⟩)).toInt.toNat 99 + 0 + 0 = _
    rw [e, index_apply h1 h4 hβ]
    exact (bin_checks _).2.2

end Bin

/-! ## The loss -/

/-- The mask. -/
theorem mask_apply (h1 : ∀ r d, x1 (ix2 r d) = (θ r d : EReal)) (r : Fin 16384) (d : Fin 26) : val_main_v61 x1 (ix2 r d) = msk (θ r d) := by
  rw [val_main_v61_apply, val_main_v60_apply, val_main_v59_apply, val_main_cst_10_apply]
  show (((BitVec.ofBool (decide (x1 (ix2 r d) ≠ Ideal.ofBits .f32 0x00000000#32))).toNat : ℝ) : EReal) = _
  rw [Ideal.ofBits_zero_f32, h1]
  unfold msk
  by_cases h : (θ r d : EReal) = 0
  · rw [if_pos h, decide_eq_false (not_not.2 h)]; simp
  · rw [if_neg h, decide_eq_true h]; simp

variable (h0 : ∀ r k, x0 (ix2 r k) = (σ r k : EReal)) (h1 : ∀ r d, x1 (ix2 r d) = (θ r d : EReal))
  (h2 : ∀ c d k, x2 (ix3 c d k) = (ω c d k : EReal))
  (h3 : ∀ c d, x3 (ix2 c d) = (η c d : EReal)) (h4 : ∀ i, x4 (ix1 i) = (β i : EReal)) (hβ : StrictMono β)

include h0 h2 h3 h4 hβ in
/-- The spikiness: the mean squared difference over the mean absolute value. -/
theorem spik_apply (r : Fin 16384) (d : Fin 26) : val_main_v31 x0 x2 x3 x4 (ix2 r d)
    = Ideal.div ((sqd (ent (σ r) ω η β d) : EReal) * ((100 / 99 : ℝ) : EReal)) (sab (ent (σ r) ω η β d) : EReal) := by
  have hl := logp_apply h0 h2 h3 h4 hβ r d
  have e1 : val_main_v24 x0 x2 x3 x4 (ix2 r d) = (sqd (ent (σ r) ω η β d) : EReal) := by
    rw [val_main_v24_apply, val_main_cst_0_apply]
    show Ideal.ofBits .f32 0x00000000#32 + _ = _
    rw [Ideal.ofBits_zero_f32, zero_add]
    unfold sqd
    rw [← coe_sum]
    refine Finset.sum_congr rfl fun k _ => ?_
    have e20 : idx_main_v20 (idx_main_v24 (ix2 r d) k) = ix3 r d k.succ := by
      funext a
      match a with
      | ⟨0, _⟩ => rfl
      | ⟨1, _⟩ => rfl
      | ⟨2, _⟩ => exact Fin.ext (Nat.add_comm 1 k.val)
    have e21 : idx_main_v21 (idx_main_v24 (ix2 r d) k) = ix3 r d k.castSucc := by
      funext a
      match a with
      | ⟨0, _⟩ => rfl
      | ⟨1, _⟩ => rfl
      | ⟨2, _⟩ => rfl
    have e22 : val_main_v22 x0 x2 x3 x4 (idx_main_v24 (ix2 r d) k)
        = ((ent (σ r) ω η β d k.succ - ent (σ r) ω η β d k.castSucc : ℝ) : EReal) := by
      rw [val_main_v22_apply, val_main_v20_apply, val_main_v21_apply, e20, e21, hl, hl]
      exact (EReal.coe_sub _ _).symm.trans (congrArg _ (sub_sub_sub_cancel_right _ _ _))
    rw [val_main_v23_apply, e22]
    exact (EReal.coe_mul _ _).symm
  have e2 : val_main_v28 x0 x2 x3 x4 (ix2 r d) = (sab (ent (σ r) ω η β d) : EReal) := by
    rw [val_main_v28_apply, val_main_cst_2_apply]
    show Ideal.ofBits .f32 0x00000000#32 + _ = _
    rw [Ideal.ofBits_zero_f32, zero_add]
    unfold sab
    rw [← coe_sum]
    refine Finset.sum_congr rfl fun k _ => ?_
    have ei : idx_main_v28 (ix2 r d) k = ix3 r d k := by
      funext a
      match a with
      | ⟨0, _⟩ => rfl
      | ⟨1, _⟩ => rfl
      | ⟨2, _⟩ => rfl
    rw [val_main_v27_apply, ei, hl]
    refine (show _ = max (((_ : ℝ) : EReal)) (-((_ : ℝ) : EReal)) from rfl).trans ?_
    rw [← EReal.coe_neg, ← EReal.coe_strictMono.monotone.map_max]
  rw [val_main_v31_apply, val_main_v26_apply, val_main_v30_apply, e1, e2, val_main_v25_apply, val_main_v29_apply, val_main_cst_1_apply,
    val_main_cst_3_apply, ratio_of_means, ← word_99, ← word_100]
  rfl

include h0 h1 h2 h3 h4 hβ

/-- The log density the reference reads. -/
theorem chosen_apply (r : Fin 16384) (d : Fin 26) : val_main_v54 x0 x1 x2 x3 x4 (ix2 r d)
    = ((ent (σ r) ω η β d (bin β (θ r d)) - L (ent (σ r) ω η β d) : ℝ) : EReal) := by
  have e : idx_main_v54 (ix2 r d) = ix3 r d 0 := by
    funext a
    apply Fin.ext
    have := d.isLt
    match a with
    | ⟨0, _⟩ => show (r.val * 26 + d.val) / 26 = r.val; omega
    | ⟨1, _⟩ => show (r.val * 26 + d.val) / 1 % 26 = d.val; omega
    | ⟨2, _⟩ => rfl
  rw [val_main_v54_apply, e, val_main_v53_apply, in_range h1 h4 hβ, select_one, ← logp_apply h0 h2 h3 h4 hβ r d]
  exact read_at h1 h4 hβ r d _

/-- The columns' masked shares. -/
theorem share_apply (r : Fin 16384) (d : Fin 26) : val_main_v62 x0 x1 x2 x3 x4 (ix2 r d)
    = term (ent (σ r) ω η β d) β (θ r d) * msk (θ r d) := by
  rw [val_main_v62_apply, mask_apply h1, val_main_v58_apply, val_main_v55_apply, chosen_apply h0 h1 h2 h3 h4 hβ, val_main_v57_apply,
    spik_apply h0 h2 h3 h4 hβ, val_main_v56_apply, val_main_cst_9_apply]
  unfold term
  rw [sub_eq_add_neg (Ideal.ofBits .f32 0x3DCCCCCD#32 * _), add_comm]
  rfl

/-- The rows' losses. -/
theorem row_apply (r : Fin 16384) : val_main_v67 x0 x1 x2 x3 x4 (ix1 r) = per (ent (σ r) ω η β) β (θ r) := by
  rw [val_main_v67_apply, val_main_v63_apply, val_main_v66_apply, val_main_v64_apply, val_main_v65_apply, val_main_cst_11_apply,
    val_main_cst_12_apply, val_main_cst_13_apply]
  unfold per
  refine congrArg₂ Ideal.div ?_ (congrArg₂ max ?_ Ideal.ofBits_one_f32)
  · show Ideal.ofBits .f32 0x00000000#32 + _ = _
    rw [Ideal.ofBits_zero_f32, zero_add]
    refine Finset.sum_congr rfl fun d _ => ?_
    rw [eq_ix2 (idx_main_v63 _ d)]
    exact share_apply h0 h1 h2 h3 h4 hβ r d
  · show Ideal.ofBits .f32 0x00000000#32 + _ = _
    rw [Ideal.ofBits_zero_f32, zero_add]
    refine Finset.sum_congr rfl fun d _ => ?_
    rw [eq_ix2 (idx_main_v64 _ d)]
    exact mask_apply h1 r d

/-- The reference's loss is the mean of the rows' losses. -/
theorem loss_apply (i : S_.Idx) :
    val_main_v69 x0 x1 x2 x3 x4 i = (∑ r : Fin 16384, per (ent (σ r) ω η β) β (θ r)) * ((16384⁻¹ : ℝ) : EReal) := by
  have e : val_main_v68 x0 x1 x2 x3 x4 i = ∑ r : Fin 16384, per (ent (σ r) ω η β) β (θ r) := by
    rw [val_main_v68_apply, val_main_cst_14_apply]
    show Ideal.ofBits .f32 0x00000000#32 + _ = _
    rw [Ideal.ofBits_zero_f32, zero_add]
    refine (sum_rank1 _).trans ?_
    exact Finset.sum_congr rfl fun r _ => row_apply h0 h1 h2 h3 h4 hβ r
  exact (congrArg₂ Ideal.div e word_16384).trans (div_16384 _)

end Cert.ReferenceIdeal.Values

end
-- ==== Proof.Math.Sane.lean ====
/-
  What the precondition says: the rows, the weights, the biases and the bins are reals, the targets are reals between the
  kernel's two outermost ends, and the bins increase.
-/
module

public import proofs.«01_k».proof.Pre_sane
public import proofs.«01_k».proof.Proof.Math.Spec
public import proofs.«01_k».proof.Proof.Math.Words
public import Idealize.ShloMosaic.Lib.ReduceAll
public import Idealize.ShloMosaic.Lib.Pipeline.Value

@[expose] public section

noncomputable section

namespace Cert.Pre_sane

open Idealize.ShloMosaic Idealize.ShloMosaic.ValueIdx Cert.LogDensity

/-- The shape relations the precondition's operations take. -/
instance facts : Facts where
  bcast_S_S16384x64 := by decide
  reducesTo_S16384x64_S_d0_1 := by decide
  h_S_ := by decide
  bcast_S_S100x26x64 := by decide
  reducesTo_S100x26x64_S_d0_1_2 := by decide
  bcast_S_S100x26 := by decide
  reducesTo_S100x26_S_d0_1 := by decide
  bcast_S_S101 := by decide
  reducesTo_S101_S_d0 := by decide
  bcast_S_S16384x26 := by decide
  reducesTo_S16384x26_S_d0_1 := by decide
  slices_S101_S100_0 := by decide
  slices_S101_S100_1 := by decide
  reducesTo_S100_S_d0 := by decide

instance : Subsingleton S_.Idx := ⟨fun a b => funext fun k => k.elim0⟩

theorem word_hi : Ideal.ofBits .f32 0x7F7FC99E#32 < ⊤ := by
  simp [Ideal.ofBits, Ideal.ieee]; rw [← EReal.coe_pow, ← EReal.coe_mul]; exact EReal.coe_lt_top _

/-- Two tests that hold of every element. -/
theorem both {s : Shape} {axes : List (Fin s.rank)} (p q : IVec s 1) (h : s.ReducesTo axes S_) (hu : 0 < S_.numel) (i : S_.Idx)
    (e : Host.reduce IntOp.andi (andi p q) (constantI S_ 1 1#1) h hu i = 1#1) (j : s.Idx) : p j = 1#1 ∧ q j = 1#1 :=
  IntOp.andi_eq_one.1 (Host.reduce_andi_all _ _ h hu i e j)

theorem of_flag {p : Prop} [Decidable p] (h : BitVec.ofBool (decide p) = 1#1) : p := by
  by_cases hp : p
  · exact hp
  · rw [decide_eq_false hp] at h; exact absurd h (by decide)

/-- An array whose elements all lie strictly between the infinities holds reals. -/
theorem reals {s : Shape} {axes : List (Fin s.rank)} (x : FVec Ideal s .f32) (hb : S_.BroadcastsInDim s (![] : Fin 0 → Fin s.rank))
    (h : s.ReducesTo axes S_) (hu : 0 < S_.numel) (i : S_.Idx)
    (e : Host.reduce IntOp.andi (andi (cmpf .ogt x (broadcastInDim s ![] hb (constant S_ .f32 0xFF800000#32)))
      (cmpf .olt x (broadcastInDim s ![] hb (constant S_ .f32 0x7F800000#32)))) (constantI S_ 1 1#1) h hu i = 1#1) :
    ∃ y : s.Idx → ℝ, ∀ j, x j = (y j : EReal) := by
  refine ⟨fun j => (x j : EReal).toReal, fun j => ?_⟩
  obtain ⟨h1, h2⟩ := both _ _ h hu i e j
  have h1 : Ideal.ofBits .f32 0xFF800000#32 < x j := of_flag h1
  have h2 : x j < Ideal.ofBits .f32 0x7F800000#32 := of_flag h2
  rw [word_bot] at h1
  rw [word_top] at h2
  exact (EReal.coe_toReal h2.ne h1.ne').symm

open Facts

/-- The precondition's reading. -/
theorem reading {a0 : FVec Ideal S16384x64 .f32} {a1 : FVec Ideal S16384x26 .f32} {a2 : FVec Ideal S100x26x64 .f32} {a3 : FVec Ideal S100x26 .f32}
    {a4 : FVec Ideal S101 .f32} (h : fn (F := Ideal) a0 a1 a2 a3 a4 = fun _ => 1#1) :
    ∃ (σ : Fin 16384 → Fin 64 → ℝ) (θ : Fin 16384 → Fin 26 → ℝ) (ω : Fin 100 → Fin 26 → Fin 64 → ℝ) (η : Fin 100 → Fin 26 → ℝ) (β : Fin 101 → ℝ),
      (∀ r k, a0 (ix2 r k) = (σ r k : EReal)) ∧ (∀ r d, a1 (ix2 r d) = (θ r d : EReal)) ∧ (∀ c d k, a2 (ix3 c d k) = (ω c d k : EReal))
      ∧ (∀ c d, a3 (ix2 c d) = (η c d : EReal)) ∧ (∀ i, a4 (ix1 i) = (β i : EReal)) ∧ StrictMono β
      ∧ (∀ r d, Ideal.ofBits .f32 0xFF7FC99E#32 < (θ r d : EReal)) ∧ (∀ r d, (θ r d : EReal) ≤ Ideal.ofBits .f32 0x7F7FC99E#32) := by
  have e := congrFun h (Shape.Idx.first h_S_)
  obtain ⟨e, eβ⟩ := IntOp.andi_eq_one.1 e
  obtain ⟨e, e1⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  obtain ⟨y0, h0⟩ := reals a0 _ _ _ _ e0
  obtain ⟨y2, h2⟩ := reals a2 _ _ _ _ e2
  obtain ⟨y3, h3⟩ := reals a3 _ _ _ _ e3
  obtain ⟨y4, h4⟩ := reals a4 _ _ _ _ e4
  have h1 : ∀ j, Ideal.ofBits .f32 0xFF7FC99E#32 < a1 j ∧ a1 j ≤ Ideal.ofBits .f32 0x7F7FC99E#32 := fun j =>
    ⟨of_flag (both _ _ _ _ _ e1 j).1, of_flag (both _ _ _ _ _ e1 j).2⟩
  have h1' : ∀ j, a1 j = (((a1 j : EReal).toReal : ℝ) : EReal) := fun j =>
    (EReal.coe_toReal (lt_of_le_of_lt (h1 j).2 word_hi).ne (lt_of_le_of_lt bot_le (h1 j).1).ne').symm
  refine ⟨fun r k => y0 (ix2 r k), fun r d => (a1 (ix2 r d) : EReal).toReal, fun c d k => y2 (ix3 c d k), fun c d => y3 (ix2 c d), fun i => y4 (ix1 i),
    fun r k => h0 _, fun r d => h1' _, fun c d k => h2 _, fun c d => h3 _, fun i => h4 _, ?_, fun r d => ?_, fun r d => ?_⟩
  · refine Fin.strictMono_iff_lt_succ.2 fun c => ?_
    have hc := Host.reduce_andi_all _ _ _ _ _ eβ (ix1 c)
    have hc : a4 (ix1 c.castSucc) < a4 (ix1 c.succ) := by
      have e0 : extractStridedSlice S100 ![0] a4 slices_S101_S100_0 (ix1 c) = a4 (ix1 c.castSucc) :=
        extractStridedSlice_apply ![0] a4 slices_S101_S100_0 (ix1 c) (ix1 c.castSucc) (fun a => match a with
          | ⟨0, _⟩ => (Nat.zero_add _).symm)
      have e1 : extractStridedSlice S100 ![1] a4 slices_S101_S100_1 (ix1 c) = a4 (ix1 c.succ) :=
        extractStridedSlice_apply ![1] a4 slices_S101_S100_1 (ix1 c) (ix1 c.succ) (fun a => match a with
          | ⟨0, _⟩ => by show c.val + 1 = 1 + c.val; omega)
      have hc : extractStridedSlice S100 ![0] a4 slices_S101_S100_0 (ix1 c) < extractStridedSlice S100 ![1] a4 slices_S101_S100_1 (ix1 c) := of_flag hc
      rw [← e0, ← e1]
      exact hc
    rw [h4, h4] at hc
    exact EReal.coe_lt_coe_iff.1 hc
  · exact (h1' (ix2 r d)) ▸ (h1 (ix2 r d)).1
  · exact (h1' (ix2 r d)) ▸ (h1 (ix2 r d)).2

end Cert.Pre_sane

end
-- ==== Proof.lean ====
/- The certificate's claims, proved: the frames of the kernel, of its idealization and of the reference, the one rewrite
   of the idealization, and the equality of the results. -/
module

public import proofs.«01_k».proof.Defs
public import proofs.«01_k».proof.Proof.Launch
public import proofs.«01_k».proof.Proof.Ideal.Results
public import proofs.«01_k».proof.Proof.Math.RefLoss
public import proofs.«01_k».proof.Proof.Math.Sane
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The kernel runs, leaves its arguments and every semaphore at zero. -/
theorem frame_p : Cert.quiescent_Kernel := fun m ρ _ => Cert.Kernel.Clean.frame m ρ

/-- So does its idealization. -/
theorem frame_pi : Cert.quiescent_KernelIdeal := fun m ρ _ => Cert.KernelIdeal.Clean.frame m ρ

/-- So does the reference, which declares no semaphore. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The rounded literal of the kernel is named as the quotient it stands for. -/
theorem preserves : Cert.preserves_Kernel_KernelIdeal :=
  IdealRules.named_const.statement Cert.KernelIdeal.κ "mean_ratio" .f32 0x3F814AFD#32 ((100 / 99 : ℝ) : EReal) rfl

/-- The kernel's two results are the reference's, on arguments that meet the precondition. -/
theorem algebraic : Cert.algebraic_KernelIdeal_ReferenceIdeal_pre_sane := by
  intro m g m' g' pre same
  refine ⟨fun c => Cert.KernelIdeal.Clean.lossRes m c, fun c => Cert.KernelIdeal.Clean.Gres m c,
    (θ_run Cert.KernelIdeal.defs _ _).mono (fun r h c => ⟨(h.1 c).2.1, (h.1 c).2.2, (h.1 c).1⟩) (Cert.KernelIdeal.Clean.run m g),
    (θ_run Cert.ReferenceIdeal.defs _ _).mono (fun r h c => ⟨(h c).1.trans ?_, (h c).2.1.trans ?_, (h c).2.2⟩)
      (Cert.ReferenceIdeal.Value.run (F := Ideal) m' g')⟩
  · obtain ⟨σ, θ, ω, η, β, a0, a1, a2, a3, a4, hβ, hlo, hhi⟩ := Cert.Pre_sane.reading (pre c)
    obtain ⟨e0, e1, e2, e3, e4⟩ := same c
    rw [Cert.ReferenceIdeal.Read.val_main_v69_eq, e0, e1, e2, e3, e4]
    funext i
    exact (Cert.ReferenceIdeal.Values.loss_apply a0 a1 a2 a3 a4 hβ i).trans
      (Cert.KernelIdeal.Clean.lossRes_apply m c a0 a1 a2 a3 a4 hβ hlo hhi i).symm
  · obtain ⟨σ, θ, ω, η, β, a0, a1, a2, a3, a4, hβ, hlo, hhi⟩ := Cert.Pre_sane.reading (pre c)
    obtain ⟨e0, e1, e2, e3, e4⟩ := same c
    rw [Cert.ReferenceIdeal.Read.val_main_v19_eq, e0, e2, e3, e4]
    funext i
    rw [ValueIdx.eq_ix3 i]
    exact (Cert.ReferenceIdeal.Values.logp_apply a0 a2 a3 a4 hβ (i 0) (i 1) (i 2)).trans
      (Cert.KernelIdeal.Clean.Gres_apply m c a0 a2 a3 a4 hβ (i 0) (i 1) (i 2)).symm

theorem claim : Cert.Claim := ⟨Cert.Kernel.Gen.facts, Cert.KernelIdeal.Gen.facts, Cert.ReferenceIdeal.Gen.facts, Cert.Pre_sane.facts,
  frame_p, frame_pi, fun m ρ _ => Cert.KernelIdeal.Clean.frame m ρ, frame_ri, fun m ρ _ => frame_ri m ρ trivial, preserves, algebraic⟩

end Cert.Proof

end
